-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_cst_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_cst_6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_cst_23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x96x16x16 : Shape := ⟨4, ![4096, 96, 16, 16]⟩
abbrev S256x1536 : Shape := ⟨2, ![256, 1536]⟩
abbrev S256 : Shape := ⟨1, ![256]⟩
abbrev S12x256 : Shape := ⟨2, ![12, 256]⟩
abbrev S12 : Shape := ⟨1, ![12]⟩
abbrev S_ : Shape := ⟨0, ![]⟩
abbrev S96x16x16x4096 : Shape := ⟨4, ![96, 16, 16, 4096]⟩
abbrev S96x256x4096 : Shape := ⟨3, ![96, 256, 4096]⟩
abbrev S256x24x4x4x4 : Shape := ⟨5, ![256, 24, 4, 4, 4]⟩
abbrev S24x256x4x4x4 : Shape := ⟨5, ![24, 256, 4, 4, 4]⟩
abbrev S24x256x64 : Shape := ⟨3, ![24, 256, 64]⟩
abbrev S16x256 : Shape := ⟨2, ![16, 256]⟩
abbrev S1 : Shape := ⟨1, ![1]⟩
abbrev S16x1 : Shape := ⟨2, ![16, 1]⟩
abbrev S2 : Shape := ⟨1, ![2]⟩
abbrev S256x1 : Shape := ⟨2, ![256, 1]⟩
abbrev S16x4096 : Shape := ⟨2, ![16, 4096]⟩
abbrev S4x256x4096 : Shape := ⟨3, ![4, 256, 4096]⟩
abbrev S1x256x64 : Shape := ⟨3, ![1, 256, 64]⟩
abbrev S256x4096 : Shape := ⟨2, ![256, 4096]⟩
abbrev S16x64x4096 : Shape := ⟨3, ![16, 64, 4096]⟩
abbrev S16x16x4096 : Shape := ⟨3, ![16, 16, 4096]⟩
abbrev S16x1x4096 : Shape := ⟨3, ![16, 1, 4096]⟩
abbrev S64x4096 : Shape := ⟨2, ![64, 4096]⟩
abbrev S256x64 : Shape := ⟨2, ![256, 64]⟩
abbrev S4096 : Shape := ⟨1, ![4096]⟩
abbrev S1x4096 : Shape := ⟨2, ![1, 4096]⟩
abbrev S4096x16 : Shape := ⟨2, ![4096, 16]⟩
abbrev S4096x12 : Shape := ⟨2, ![4096, 12]⟩
abbrev S4096x1 : Shape := ⟨2, ![4096, 1]⟩

abbrev nBuf : Space → Nat
  | .hbm => 44
  | .vmem => 11
  | .smem => 1
  | _ => 0

abbrev bufTy : (tb : Table) → Fin (tcTables nBuf tb) → BufTy
  | .hbm, ⟨0, _⟩ => ⟨S4096x96x16x16, .f32⟩
  | .hbm, ⟨1, _⟩ => ⟨S256x1536, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S12x256, .f32⟩
  | .hbm, ⟨6, _⟩ => ⟨S12, .f32⟩
  | .hbm, ⟨7, _⟩ => ⟨S_, .f32⟩
  | .hbm, ⟨8, _⟩ => ⟨S96x16x16x4096, .f32⟩
  | .hbm, ⟨9, _⟩ => ⟨S96x256x4096, .f32⟩
  | .hbm, ⟨10, _⟩ => ⟨S256x24x4x4x4, .f32⟩
  | .hbm, ⟨11, _⟩ => ⟨S24x256x4x4x4, .f32⟩
  | .hbm, ⟨12, _⟩ => ⟨S24x256x64, .f32⟩
  | .hbm, ⟨13, _⟩ => ⟨S_, .f32⟩
  | .hbm, ⟨14, _⟩ => ⟨S16x256, .f32⟩
  | .hbm, ⟨15, _⟩ => ⟨S_, .i32⟩
  | .hbm, ⟨16, _⟩ => ⟨S1, .i32⟩
  | .hbm, ⟨17, _⟩ => ⟨S16x256, .f32⟩
  | .hbm, ⟨18, _⟩ => ⟨S_, .f32⟩
  | .hbm, ⟨19, _⟩ => ⟨S16x1, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S16x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S256x1, .f32⟩
  | .hbm, ⟨36, _⟩ => ⟨S256x1, .f32⟩
  | .hbm, ⟨37, _⟩ => ⟨S256x1, .f32⟩
  | .hbm, ⟨38, _⟩ => ⟨S16x4096, .f32⟩
  | .hbm, ⟨39, _⟩ => ⟨S4096x16, .f32⟩
  | .hbm, ⟨40, _⟩ => ⟨S4096x12, .f32⟩
  | .hbm, ⟨41, _⟩ => ⟨S4096x1, .f32⟩
  | .hbm, ⟨42, _⟩ => ⟨S4096, .f32⟩
  | .hbm, ⟨43, _⟩ => ⟨S_, .f32⟩
  | .local _ .vmem, ⟨0, _⟩ => ⟨S4x256x4096, .f32⟩
  | .local _ .vmem, ⟨1, _⟩ => ⟨S4x256x4096, .f32⟩
  | .local _ .vmem, ⟨2, _⟩ => ⟨S1x256x64, .f32⟩
  | .local _ .vmem, ⟨3, _⟩ => ⟨S1x256x64, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S16x256, .f32⟩
  | .local _ .vmem, ⟨8, _⟩ => ⟨S16x1, .f32⟩
  | .local _ .vmem, ⟨9, _⟩ => ⟨S16x4096, .f32⟩
  | .local _ .vmem, ⟨10, _⟩ => ⟨S256x4096, .f32⟩
  | .local _ .smem, ⟨0, _⟩ => ⟨S1, .f32⟩
  | _, _ => ⟨S4096x96x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c23_i32 : BitVec 32 := 23#32
  let v69 : BitVec 1 := Scalar.cmpi .eq arg0 c23_i32
  let v70 : BitVec 32 := Scalar.extui v69
  let c0_i32_11 : BitVec 32 := 0#32
  let v71 : BitVec 1 := Scalar.cmpi .ne v70 c0_i32_11
  v71

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x96x16x16 : Shape := ⟨4, ![4096, 96, 16, 16]⟩
abbrev S256x1536 : Shape := ⟨2, ![256, 1536]⟩
abbrev S256 : Shape := ⟨1, ![256]⟩
abbrev S12x256 : Shape := ⟨2, ![12, 256]⟩
abbrev S12 : Shape := ⟨1, ![12]⟩
abbrev S_ : Shape := ⟨0, ![]⟩
abbrev S4096x96x4x4x4x4 : Shape := ⟨6, ![4096, 96, 4, 4, 4, 4]⟩
abbrev S4096x96x4x4 : Shape := ⟨4, ![4096, 96, 4, 4]⟩
abbrev S4096x1536 : Shape := ⟨2, ![4096, 1536]⟩
abbrev S1536x256 : Shape := ⟨2, ![1536, 256]⟩
abbrev S4096x256 : Shape := ⟨2, ![4096, 256]⟩
abbrev S1x256 : Shape := ⟨2, ![1, 256]⟩
abbrev S4096 : Shape := ⟨1, ![4096]⟩
abbrev S4096x1 : Shape := ⟨2, ![4096, 1]⟩
abbrev S256x12 : Shape := ⟨2, ![256, 12]⟩
abbrev S4096x12 : Shape := ⟨2, ![4096, 12]⟩
abbrev S1x12 : Shape := ⟨2, ![1, 12]⟩
abbrev S4096x4 : Shape := ⟨2, ![4096, 4]⟩
abbrev S4 : Shape := ⟨1, ![4]⟩
abbrev S1x4 : Shape := ⟨2, ![1, 4]⟩
abbrev S4096x4x1 : Shape := ⟨3, ![4096, 4, 1]⟩
abbrev S4096x4x2 : Shape := ⟨3, ![4096, 4, 2]⟩

abbrev nBuf : Space → Nat
  | .hbm => 141
  | .vmem => 0
  | .smem => 0
  | _ => 0

abbrev hbmTy0_0 (i : Nat) : BufTy := match i % 128 with
  | 0 => ⟨S4096x96x16x16, .f32⟩
  | 1 => ⟨S256x1536, .f32⟩
  | 2 => ⟨S256, .f32⟩
  | 3 => ⟨S256, .f32⟩
  | 4 => ⟨S256, .f32⟩
  | 5 => ⟨S12x256, .f32⟩
  | 6 => ⟨S12, .f32⟩
  | 7 => ⟨S_, .f32⟩
  | 8 => ⟨S4096x96x4x4x4x4, .f32⟩
  | 9 => ⟨S_, .f32⟩
  | 10 => ⟨S4096x96x4x4, .f32⟩
  | 11 => ⟨S_, .f32⟩
  | 12 => ⟨S4096x96x4x4, .f32⟩
  | 13 => ⟨S4096x96x4x4, .f32⟩
  | 14 => ⟨S4096x1536, .f32⟩
  | 15 => ⟨S1536x256, .f32⟩
  | 16 => ⟨S4096x256, .f32⟩
  | 17 => ⟨S1x256, .f32⟩
  | 18 => ⟨S4096x256, .f32⟩
  | 19 => ⟨S4096x256, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S4096x256, .f32⟩
  | 27 => ⟨S4096x256, .f32⟩
  | 28 => ⟨S4096x256, .f32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S4096x256, .f32⟩
  | 36 => ⟨S4096x256, .f32⟩
  | 37 => ⟨S_, .f32⟩
  | 38 => ⟨S4096x1, .f32⟩
  | 39 => ⟨S4096x1, .f32⟩
  | 40 => ⟨S4096x1, .f32⟩
  | 41 => ⟨S4096x256, .f32⟩
  | 42 => ⟨S4096x256, .f32⟩
  | 43 => ⟨S1x256, .f32⟩
  | 44 => ⟨S4096x256, .f32⟩
  | 45 => ⟨S4096x256, .f32⟩
  | 46 => ⟨S1x256, .f32⟩
  | 47 => ⟨S4096x256, .f32⟩
  | 48 => ⟨S4096x256, .f32⟩
  | 49 => ⟨S_, .f32⟩
  | 50 => ⟨S4096x256, .f32⟩
  | 51 => ⟨S4096x256, .f32⟩
  | 52 => ⟨S4096x256, .f32⟩
  | 53 => ⟨S_, .f32⟩
  | 54 => ⟨S4096x256, .f32⟩
  | 55 => ⟨S4096x256, .f32⟩
  | 56 => ⟨S4096x256, .f32⟩
  | 57 => ⟨S4096x256, .f32⟩
  | 58 => ⟨S256x12, .f32⟩
  | 59 => ⟨S4096x12, .f32⟩
  | 60 => ⟨S1x12, .f32⟩
  | 61 => ⟨S4096x12, .f32⟩
  | 62 => ⟨S4096x12, .f32⟩
  | 63 => ⟨S_, .f32⟩
  | 64 => ⟨S4096, .f32⟩
  | 65 => ⟨S_, .f32⟩
  | 66 => ⟨S4096, .f32⟩
  | 67 => ⟨S4096, .f32⟩
  | 68 => ⟨S4096x1, .f32⟩
  | 69 => ⟨S4096x12, .f32⟩
  | 70 => ⟨S4096x12, .f32⟩
  | 71 => ⟨S4096x12, .f32⟩
  | 72 => ⟨S_, .f32⟩
  | 73 => ⟨S4096, .f32⟩
  | 74 => ⟨S4096x1, .f32⟩
  | 75 => ⟨S4096x12, .f32⟩
  | 76 => ⟨S4096x12, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S4096x4, .f32⟩
  | 86 => ⟨S4096x4, .i32⟩
  | 87 => ⟨S4096x12, .f32⟩
  | 88 => ⟨S4096x12, .i1⟩
  | 89 => ⟨S4096x12, .f32⟩
  | 90 => ⟨S_, .f32⟩
  | 91 => ⟨S4096, .f32⟩
  | 92 => ⟨S_, .i32⟩
  | 93 => ⟨S_, .i32⟩
  | 94 => ⟨S_, .f32⟩
  | 95 => ⟨S4096, .f32⟩
  | 96 => ⟨S4096, .f32⟩
  | 97 => ⟨S_, .f32⟩
  | 98 => ⟨S4096, .f32⟩
  | 99 => ⟨S4096, .f32⟩
  | 100 => ⟨S4, .i32⟩
  | 101 => ⟨S1x4, .i32⟩
  | 102 => ⟨S4096, .i32⟩
  | 103 => ⟨S4096x1, .i32⟩
  | 104 => ⟨S4096x4, .i32⟩
  | 105 => ⟨S4096x4, .i32⟩
  | 106 => ⟨S4096x4, .i1⟩
  | 107 => ⟨S4096x4, .f32⟩
  | 108 => ⟨S4096x4, .f32⟩
  | 109 => ⟨S_, .f32⟩
  | 110 => ⟨S4096x12, .f32⟩
  | 111 => ⟨S4096, .i32⟩
  | 112 => ⟨S4096x1, .i32⟩
  | 113 => ⟨S_, .i32⟩
  | 114 => ⟨S4096x1, .i32⟩
  | 115 => ⟨S4096x1, .i1⟩
  | 116 => ⟨S_, .i32⟩
  | 117 => ⟨S4096x1, .i32⟩
  | 118 => ⟨S4096x1, .i32⟩
  | 119 => ⟨S4096x1, .i32⟩
  | 120 => ⟨S_, .i32⟩
  | 121 => ⟨S4096x4, .i32⟩
  | 122 => ⟨S4096x4, .i1⟩
  | 123 => ⟨S_, .i32⟩
  | 124 => ⟨S4096x4, .i32⟩
  | 125 => ⟨S4096x4, .i32⟩
  | 126 => ⟨S4096x4, .i32⟩
  | 127 => ⟨S4096x4, .i32⟩
  | _ => ⟨S4096x96x16x16, .f32⟩

abbrev hbmTy0_1 (i : Nat) : BufTy := match i % 128 with
  | 0 => ⟨S4096x4x1, .i32⟩
  | 1 => ⟨S4096x4x1, .i32⟩
  | 2 => ⟨S4096x4x2, .i32⟩
  | 3 => ⟨S4096x12, .f32⟩
  | 4 => ⟨S_, .f32⟩
  | 5 => ⟨S4096, .f32⟩
  | 6 => ⟨S4096x1, .f32⟩
  | 7 => ⟨S_, .f32⟩
  | 8 => ⟨S4096x1, .f32⟩
  | 9 => ⟨S4096x1, .f32⟩
  | 10 => ⟨S4096x12, .f32⟩
  | 11 => ⟨S4096x12, .f32⟩
  | 12 => ⟨S_, .f32⟩
  | _ => ⟨S4096x96x16x16, .f32⟩

abbrev hbmTy (i : Nat) : BufTy := match i / 128 with
  | 0 => hbmTy0_0 i
  | 1 => hbmTy0_1 i
  | _ => ⟨S4096x96x16x16, .f32⟩

abbrev bufTy : (tb : Table) → Fin (tcTables nBuf tb) → BufTy
  | .hbm, ⟨i, _⟩ => hbmTy i
  | _, _ => ⟨S4096x96x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_cst_12 : Ref sig .tc := ⟨.hbm, 81, rfl⟩
abbrev main_v60 : Ref sig .tc := ⟨.hbm, 82, rfl⟩
abbrev main_cst_13 : Ref sig .tc := ⟨.hbm, 83, rfl⟩
abbrev main_v61 : Ref sig .tc := ⟨.hbm, 84, rfl⟩
abbrev main_values : Ref sig .tc := ⟨.hbm, 85, rfl⟩
abbrev main_indices : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_c : Ref sig .tc := ⟨.hbm, 92, rfl⟩
abbrev main_c_15 : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_16 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_19 : Ref sig .tc := ⟨.hbm, 120, rfl⟩
abbrev main_v84 : Ref sig .tc := ⟨.hbm, 121, rfl⟩
abbrev main_v85 : Ref sig .tc := ⟨.hbm, 122, rfl⟩
abbrev main_c_20 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_21 : Ref sig .tc := ⟨.hbm, 132, rfl⟩
abbrev main_v94 : Ref sig .tc := ⟨.hbm, 133, rfl⟩
abbrev main_v95 : Ref sig .tc := ⟨.hbm, 134, rfl⟩
abbrev main_cst_22 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_23 : Ref sig .tc := ⟨.hbm, 140, rfl⟩

abbrev nD : Nat := 1
abbrev τ : Topo := Topo.v7x

variable {F : FTy → Type} [FloatOps F]
-- ==== Proof.Steps.lean ====
/-
  What one grid point of the kernel leaves behind, as the values its loads were given: the accumulator after the point
  (`pooled` applied to the block, contracted with the weight block and added), and at the last point the result array.
-/
module

public import proofs.«01_k».proof.Proof.Gen.KernelIdeal.Frame
public import Idealize.ShloMosaic.Lib.Pipeline.Value
public import Idealize.ShloMosaic.Lib.Tactic
public import Idealize.ShloMosaic.Lib.Pointwise

@[expose] public section

noncomputable section

namespace Cert.KernelIdeal.Router

open Idealize.ShloMosaic Idealize.ShloMosaic.TcCoe Idealize.SL.Sem
open Cert.KernelIdeal Cert.KernelIdeal.Gen

variable {F : FTy → Type} [FloatOps F]

/-- A start of zeros, on one axis. -/
theorem hz1 : (![0] : Fin 1 → Nat) = fun _ => 0 := funext fun a => by fin_cases a <;> rfl
/-- A start of zeros, on two axes. -/
theorem hz : (![0, 0] : Fin 2 → Nat) = fun _ => 0 := funext fun a => by fin_cases a <;> rfl
/-- A start of zeros, on three axes. -/
theorem hz3 : (![0, 0, 0] : Fin 3 → Nat) = fun _ => 0 := funext fun a => by fin_cases a <;> rfl

/-- The accumulator after a point that found it holding `acc` and was given the feature block `x` and weight block `w`. -/
def step (x : Vec F S4x256x4096 .f32) (w : Vec F S1x256x64 .f32) (acc : Vec F S256x4096 .f32) : Vec F S256x4096 .f32 :=
  k0_pay1 (k0_pay18 x) (k0_pay19 x) (k0_pay20 x) (k0_pay21 x) (k0_pay22 x) (k0_pay23 x) w acc

/-- The activated hidden layer the last point computes from the finished accumulator. -/
def hidden (acc : Vec F S256x4096 .f32) (b1 g s : Vec F S256x1 .f32) : Vec F S256x4096 .f32 := k0_pay3 acc b1 g s

/-- The zero array the logits' product starts from. -/
def zeros : FVec F S16x4096 .f32 := constant S16x4096 .f32 0x00000000#32

/-- The array of row numbers. -/
def rows : IVec S16x4096 32 := iota .tc S16x4096 32 [0] iota_S16x4096_d0_w32

/-- The sixteen rows of probabilities. -/
def probs (x : Vec F S256x4096 .f32) (w : Vec F S16x256 .f32) (b : Vec F S16x1 .f32) : Vec F S16x4096 .f32 :=
  k0_pay5 x (k0_pay4 w) zeros b

/-- The number of active experts of each token. -/
def actives (t : Elt F .f32) (x : Vec F S256x4096 .f32) (w : Vec F S16x256 .f32) (b : Vec F S16x1 .f32) : Vec F S1x4096 .f32 :=
  k0_pay6 x (k0_pay4 w) zeros b t

/-- The same number as a word. -/
def activeWords (t : Elt F .f32) (x : Vec F S256x4096 .f32) (w : Vec F S16x256 .f32) (b : Vec F S16x1 .f32) : IVec S1x4096 32 :=
  k0_pay7 x (k0_pay4 w) zeros b t

/-- The count, over the first five rows and half of the sixth, of the rows standing before each row. -/
def countA (x : Vec F S256x4096 .f32) (w : Vec F S16x256 .f32) (b : Vec F S16x1 .f32) : IVec S16x4096 32 :=
  k0_pay11 rows (probs x w b) (k0_pay8 x (k0_pay4 w) zeros b) (k0_pay9 x (k0_pay4 w) zeros b)

/-- That count over the first ten rows. -/
def countB (x : Vec F S256x4096 .f32) (w : Vec F S16x256 .f32) (b : Vec F S16x1 .f32) : IVec S16x4096 32 :=
  k0_pay14 rows (probs x w b) (countA x w b) (k0_pay12 (probs x w b)) k0_pay13

/-- The result array from the activated hidden layer: sixteen rows of gates, the thirteenth the number of active experts. -/
def outcome (t : Elt F .f32) (x : Vec F S256x4096 .f32) (w : Vec F S16x256 .f32) (b : Vec F S16x1 .f32) : Vec F S16x4096 .f32 :=
  k0_pay2 rows (probs x w b) (actives t x w b) (activeWords t x w b) (countB x w b) (k0_pay15 (probs x w b)) (k0_pay16 (probs x w b))

/-- At a middle point the accumulator is stepped from what the point before left. -/
theorem sout_B (c : Dev nD) (i : grid0.Coords) (a1 : Memref sig .tc .smem S1 .f32) (h1 : a1.IsWhole) (a2 : Memref sig .tc .vmem S4x256x4096 .f32) (h2 : a2.IsWhole) (a3 : Memref sig .tc .vmem S1x256x64 .f32) (h3 : a3.IsWhole)
    (a4 : Memref sig .tc .vmem S256x1 .f32) (h4 : a4.IsWhole) (a5 : Memref sig .tc .vmem S256x1 .f32) (h5 : a5.IsWhole) (a6 : Memref sig .tc .vmem S256x1 .f32) (h6 : a6.IsWhole) (a7 : Memref sig .tc .vmem S16x256 .f32) (h7 : a7.IsWhole)
    (a8 : Memref sig .tc .vmem S16x1 .f32) (h8 : a8.IsWhole) (a9 : Memref sig .tc .vmem S16x4096 .f32) (h9 : a9.IsWhole) (a10 : Memref sig .tc .vmem S256x4096 .f32) (h10 : a10.IsWhole) (hc0 : ¬cond0_0 i) (hc1 : ¬cond0_1 i)
    (x0 : Vec F S1 .f32) (x1 : Vec F S4x256x4096 .f32) (x2 : Vec F S1x256x64 .f32) (x3 : Vec F S256x1 .f32) (x4 : Vec F S256x1 .f32) (x5 : Vec F S256x1 .f32) (x6 : Vec F S16x256 .f32) (x7 : Vec F S16x1 .f32) (xs0 : Vec F S256x4096 .f32) :
    sout0_B_0 c i a1 h1 a2 h2 a3 h3 a4 h4 a5 h5 a6 h6 a7 h7 a8 h8 a9 h9 a10 h10 hc0 hc1 x0 x1 x2 x3 x4 x5 x6 x7 xs0 = step x1 x2 xs0 := by
  unfold sout0_B_0
  rw [View.read_writes_eq_canon _ _ _ (scover0_B_0 c i a1 h1 a2 h2 a3 h3 a4 h4 a5 h5 a6 h6 a7 h7 a8 h8 a9 h9 a10 h10 hc0 hc1 x0 x1 x2 x3 x4 x5 x6 x7 xs0)]
  unfold kernelRun0_B
  dsimp only
  sl_unfold_words
  rw [View.canon_unit_zero (S := S256x4096) hz]
  unfold step
  simp only [View.readAt_eq_ld, h1.read_unread, h2.read_unread, h3.read_unread, h4.read_unread, h5.read_unread, h6.read_unread, h7.read_unread, h8.read_unread, h10.read_unread,
    View.ld_unit_zero (S := S4x256x4096) hz3, View.ld_unit_zero (S := S1x256x64) hz3, View.ld_unit_zero (S := S256x1) hz, View.ld_unit_zero (S := S16x256) hz, View.ld_unit_zero (S := S16x1) hz, View.ld_unit_zero (S := S1) hz1, View.ld_unit_zero (S := S256x4096) hz]

/-- At the first point it is stepped from zero. -/
theorem sout_A (c : Dev nD) (i : grid0.Coords) (a1 : Memref sig .tc .smem S1 .f32) (h1 : a1.IsWhole) (a2 : Memref sig .tc .vmem S4x256x4096 .f32) (h2 : a2.IsWhole) (a3 : Memref sig .tc .vmem S1x256x64 .f32) (h3 : a3.IsWhole)
    (a4 : Memref sig .tc .vmem S256x1 .f32) (h4 : a4.IsWhole) (a5 : Memref sig .tc .vmem S256x1 .f32) (h5 : a5.IsWhole) (a6 : Memref sig .tc .vmem S256x1 .f32) (h6 : a6.IsWhole) (a7 : Memref sig .tc .vmem S16x256 .f32) (h7 : a7.IsWhole)
    (a8 : Memref sig .tc .vmem S16x1 .f32) (h8 : a8.IsWhole) (a9 : Memref sig .tc .vmem S16x4096 .f32) (h9 : a9.IsWhole) (a10 : Memref sig .tc .vmem S256x4096 .f32) (h10 : a10.IsWhole) (hc0 : cond0_0 i) (hc1 : ¬cond0_1 i)
    (x0 : Vec F S1 .f32) (x1 : Vec F S4x256x4096 .f32) (x2 : Vec F S1x256x64 .f32) (x3 : Vec F S256x1 .f32) (x4 : Vec F S256x1 .f32) (x5 : Vec F S256x1 .f32) (x6 : Vec F S16x256 .f32) (x7 : Vec F S16x1 .f32) :
    sout0_A_0 c i a1 h1 a2 h2 a3 h3 a4 h4 a5 h5 a6 h6 a7 h7 a8 h8 a9 h9 a10 h10 hc0 hc1 x0 x1 x2 x3 x4 x5 x6 x7 = step x1 x2 k0_pay17 := by
  unfold sout0_A_0
  rw [View.read_writes_eq_canon _ _ _ (scover0_A_0 c i a1 h1 a2 h2 a3 h3 a4 h4 a5 h5 a6 h6 a7 h7 a8 h8 a9 h9 a10 h10 hc0 hc1 x0 x1 x2 x3 x4 x5 x6 x7)]
  unfold kernelRun0_A
  dsimp only
  sl_unfold_words
  rw [View.canon_cons_unit_zero (S := S256x4096) hz, View.readCov_unit_zero (S := S256x4096) _ hz]
  unfold step
  simp only [View.readAt_eq_ld, h1.read_unread, h2.read_unread, h3.read_unread, h4.read_unread, h5.read_unread, h6.read_unread, h7.read_unread, h8.read_unread, h10.read_unread,
    View.ld_unit_zero (S := S4x256x4096) hz3, View.ld_unit_zero (S := S1x256x64) hz3, View.ld_unit_zero (S := S256x1) hz, View.ld_unit_zero (S := S16x256) hz, View.ld_unit_zero (S := S16x1) hz, View.ld_unit_zero (S := S1) hz1, View.ld_unit_zero (S := S256x4096) hz]

/-- At the last point the result array is the outcome of the accumulator stepped once more. -/
theorem out_C (c : Dev nD) (i : grid0.Coords) (a1 : Memref sig .tc .smem S1 .f32) (h1 : a1.IsWhole) (a2 : Memref sig .tc .vmem S4x256x4096 .f32) (h2 : a2.IsWhole) (a3 : Memref sig .tc .vmem S1x256x64 .f32) (h3 : a3.IsWhole)
    (a4 : Memref sig .tc .vmem S256x1 .f32) (h4 : a4.IsWhole) (a5 : Memref sig .tc .vmem S256x1 .f32) (h5 : a5.IsWhole) (a6 : Memref sig .tc .vmem S256x1 .f32) (h6 : a6.IsWhole) (a7 : Memref sig .tc .vmem S16x256 .f32) (h7 : a7.IsWhole)
    (a8 : Memref sig .tc .vmem S16x1 .f32) (h8 : a8.IsWhole) (a9 : Memref sig .tc .vmem S16x4096 .f32) (h9 : a9.IsWhole) (a10 : Memref sig .tc .vmem S256x4096 .f32) (h10 : a10.IsWhole) (hc0 : ¬cond0_0 i) (hc1 : cond0_1 i)
    (x0 : Vec F S1 .f32) (x1 : Vec F S4x256x4096 .f32) (x2 : Vec F S1x256x64 .f32) (x3 : Vec F S256x1 .f32) (x4 : Vec F S256x1 .f32) (x5 : Vec F S256x1 .f32) (x6 : Vec F S16x256 .f32) (x7 : Vec F S16x1 .f32) (xs0 : Vec F S256x4096 .f32) :
    out0_C_8 c i a1 h1 a2 h2 a3 h3 a4 h4 a5 h5 a6 h6 a7 h7 a8 h8 a9 h9 a10 h10 hc0 hc1 x0 x1 x2 x3 x4 x5 x6 x7 xs0 = outcome (x0 (ix1 0)) (hidden (step x1 x2 xs0) x3 x4 x5) x6 x7 := by
  unfold out0_C_8
  rw [View.read_writes_eq_canon _ _ _ (cover0_C_8 c i a1 h1 a2 h2 a3 h3 a4 h4 a5 h5 a6 h6 a7 h7 a8 h8 a9 h9 a10 h10 hc0 hc1 x0 x1 x2 x3 x4 x5 x6 x7 xs0)]
  unfold kernelRun0_C
  dsimp only
  sl_unfold_words
  rw [View.canon_unit_zero (S := S16x4096) hz]
  simp only [View.readCov_unit_zero (S := S256x4096) _ hz]
  unfold outcome hidden step countB countA probs actives activeWords rows zeros
  simp only [View.readAt_eq_ld, h1.read_unread, h2.read_unread, h3.read_unread, h4.read_unread, h5.read_unread, h6.read_unread, h7.read_unread, h8.read_unread, h10.read_unread,
    View.ld_unit_zero (S := S4x256x4096) hz3, View.ld_unit_zero (S := S1x256x64) hz3, View.ld_unit_zero (S := S256x1) hz, View.ld_unit_zero (S := S16x256) hz, View.ld_unit_zero (S := S16x1) hz, View.ld_unit_zero (S := S1) hz1, View.ld_unit_zero (S := S256x4096) hz]
  have hx : View.ld x0 (Rect.unit (s := S1) ![0] S1.size inb_S1_S1_0) (Shape.Idx.first (numel1_S1.symm ▸ Nat.one_pos)) = x0 (ix1 0) :=
    congrArg x0 (funext fun a => match a with | ⟨0, _⟩ => Subsingleton.elim (α := Fin 1) _ _)
  rw [← hx]

end Cert.KernelIdeal.Router

end
-- ==== Proof.Launch.lean ====
/-
  What the whole kernel leaves: the accumulator after each grid point by recursion on the point, the result array as the
  outcome at the last one, and the two results the host operations after the region take from it.
-/
module

public import proofs.«01_k».proof.Proof.Steps
public import Idealize.ShloMosaic.Lib.StableHlo.Run

@[expose] public section

noncomputable section

namespace Cert.KernelIdeal.Router

open Idealize.ShloMosaic Idealize.ShloMosaic.TcCoe Idealize.SL.Sem
open Cert.KernelIdeal Cert.KernelIdeal.Gen

variable {F : FTy → Type} [FloatOps F] (m : (ℓ : Loc nD τ sig) → Buf (Elt F) ℓ) (c : Dev nD)

/-- The accumulator after point `n`: from zero, stepped by the blocks of the points up to `n`. -/
def accum : (n : ℕ) → n < cfg0.N → Vec F S256x4096 .f32
  | 0, h => step (iblk m c 1 ⟨0, h⟩) (iblk m c 2 ⟨0, h⟩) k0_pay17
  | n + 1, h => step (iblk m c 1 ⟨n + 1, h⟩) (iblk m c 2 ⟨n + 1, h⟩) (accum n (Nat.lt_of_succ_lt h))

/-- The first point leaves the accumulator stepped from zero. -/
theorem scratch_first (t : Fin cfg0.N) (h0 : t.val % 24 = 0) (h1 : ¬t.val % 24 = 23) :
    (outsAt0 m c t.val t.isLt).2 = step (iblk m c 1 t) (iblk m c 2 t) k0_pay17 := by
  rw [outsAt0_A m c t h0 h1]; dsimp only; rw [sout_A]

/-- A middle point leaves it stepped from what the point before left. -/
theorem scratch_middle (t : Fin cfg0.N) (h0 : ¬t.val % 24 = 0) (h1 : ¬t.val % 24 = 23) :
    (outsAt0 m c t.val t.isLt).2
      = step (iblk m c 1 t) (iblk m c 2 t) (outsAt0 m c (t.val - 1) (Nat.lt_of_le_of_lt (Nat.sub_le _ _) t.isLt)).2 := by
  rw [outsAt0_B m c t h0 h1]; dsimp only; rw [sout_B]

/-- Before the last point, the accumulator the run carries is `accum`. -/
theorem scratch_eq : ∀ (n : ℕ) (h : n < cfg0.N), n < 23 → (outsAt0 m c n h).2 = accum m c n h
  | 0, h, _ => scratch_first m c ⟨0, h⟩ (Nat.zero_mod _) (by show ¬(0 % 24 = 23); decide)
  | n + 1, h, hn =>
    (scratch_middle m c ⟨n + 1, h⟩ (by show ¬((n + 1) % 24 = 0); omega) (by show ¬((n + 1) % 24 = 23); omega)).trans
      (congrArg (step (iblk m c 1 ⟨n + 1, h⟩) (iblk m c 2 ⟨n + 1, h⟩)) (scratch_eq n (Nat.lt_of_succ_lt h) (by omega)))

/-- The last grid point. -/
def last : Fin cfg0.N := ⟨23, lt_of_lt_of_eq (by decide) N_0.symm⟩

/-- The result array: the outcome of the finished accumulator. -/
def result : Vec F S16x4096 .f32 :=
  outcome ((iblk m c 0 last : Vec F S1 .f32) (ix1 0)) (hidden (accum m c 23 last.isLt) (iblk m c 3 last) (iblk m c 4 last) (iblk m c 5 last))
    (iblk m c 6 last) (iblk m c 7 last)

/-- The last point leaves the outcome of the accumulator stepped once more. -/
theorem out_at (t : Fin cfg0.N) (h0 : ¬t.val % 24 = 0) (h1 : t.val % 24 = 23) :
    (outsAt0 m c t.val t.isLt).1
      = outcome ((iblk m c 0 t : Vec F S1 .f32) (ix1 0)) (hidden (step (iblk m c 1 t) (iblk m c 2 t)
          (outsAt0 m c (t.val - 1) (Nat.lt_of_le_of_lt (Nat.sub_le _ _) t.isLt)).2) (iblk m c 3 t) (iblk m c 4 t) (iblk m c 5 t))
        (iblk m c 6 t) (iblk m c 7 t) := by
  rw [outsAt0_C m c t h0 h1]; dsimp only; rw [out_C]

/-- After the last point the result's staging buffer holds it. -/
theorem out_last : (outsAt0 m c last.val last.isLt).1 = result m c := by
  refine (out_at m c last (by decide) (by decide)).trans ?_
  have e : (outsAt0 m c (last.val - 1) (Nat.lt_of_le_of_lt (Nat.sub_le _ _) last.isLt)).2 = accum m c 22 _ :=
    scratch_eq m c 22 (lt_of_lt_of_eq (by decide) N_0.symm) (by decide)
  rw [e]
  rfl

/-- The result's one block starts at the array's corner. -/
theorem index8 (t : Fin cfg0.N) : (fun a => win0_8.index t a * main_v22.ty.shape.size a) = fun _ => 0 := by
  have h : ∀ (t : Fin cfg0.N) (a : Fin 2), win0_8.index t a = 0 := by decide +kernel
  funext a
  rw [show win0_8.index t a = 0 from h t a, Nat.zero_mul]

/-- The one write-back writes it. -/
theorem flushed_eq (t : Fin cfg0.N) (hf : (cfg0.win 8).flush t = true) :
    (dats m 0 c).flushed 8 t = ((cfg0.win 8).blk t).view.read (Elt F) (result m c) := by
  have hN : cfg0.N = 24 := N_0
  have h3 : t.val = 23 := by have := (flush0_8 t).mp hf; have := t.isLt; omega
  obtain rfl : t = last := Fin.ext h3
  show (cfg0.win 8).cut (grid0.coords last) ((dats m 0 c).after 8 last) = _
  rw [after0_8, out_last]
  have hz' := index8 last
  exact (Memref.read_access_unit_zero (Elt F) main_v22 hz' (fun a => by rw [congrFun hz' a]; simp) (result m c)).symm

/-- The result array ends holding it. -/
theorem final : (dats m 0 c).arrAt 8 cfg0.N = result m c :=
  (dats m 0 c).arrAt_eq_of_cover 8 (result m c) (flushed_eq m c) fun i =>
    ⟨last, (flush0_8 last).mpr rfl, by
      show i ∈ ((View.whole main_v22).slice (win0_8.rect last)).set
      rw [View.set_slice_whole, Rect.mem_set_unit]
      intro a
      have hz' := congrFun (index8 last) a
      have hi := (i a).isLt
      exact ⟨(le_of_eq hz').trans (Nat.zero_le _), lt_of_lt_of_eq hi (by
        show _ = win0_8.index last a * main_v22.ty.shape.size a + _
        rw [hz', Nat.zero_add]; rfl)⟩⟩

/-- The gates: the first twelve rows of the result, tokens first. -/
def gates (r : Vec F S16x4096 .f32) : FVec F S4096x12 .f32 :=
  extractStridedSlice S4096x12 ![0, 0] (transpose S4096x16 [1, 0] r transposes_S16x4096_S4096x16_1_0) slices_S4096x16_S4096x12_0_0

/-- The numbers of active experts: the thirteenth row of the result. -/
def counts (r : Vec F S16x4096 .f32) : FVec F S4096 .f32 :=
  shapeCast S4096 (extractStridedSlice S4096x1 ![0, 12] (transpose S4096x16 [1, 0] r transposes_S16x4096_S4096x16_1_0) slices_S4096x16_S4096x1_0_12)
    shapeCasts_S4096x1_S4096

/-- What the region leaves, at the result array. -/
theorem withArrays_v22 : Pipeline.withArrays spec0 c (V0 m c) (fun w => (dats m 0 c).arrAt w cfg0.N) (Proc.devRef .tc main_v22) = result m c :=
  (Pipeline.withArrays_arr spec0 winFacts0.arr_inj c _ _ 8).trans (final m c)

/-- After the host operations that follow the region: the gates. -/
theorem tail_v24 : Pipeline.afterTail₀ cfgs (dats m) 0 (V0 m) [hostOps1] c main_v24 = gates (result m c) := by
  unfold Pipeline.afterTail₀
  show StableHlo.after hostOps1 _ (Proc.devRef .tc main_v24) = _
  after_results
  rw [← withArrays_v22]; rfl

/-- After them: the numbers of active experts. -/
theorem tail_v26 : Pipeline.afterTail₀ cfgs (dats m) 0 (V0 m) [hostOps1] c main_v26 = counts (result m c) := by
  unfold Pipeline.afterTail₀
  show StableHlo.after hostOps1 _ (Proc.devRef .tc main_v26) = _
  after_results
  rw [← withArrays_v22]; rfl

/-- After them: the zero. -/
theorem tail_cst : Pipeline.afterTail₀ cfgs (dats m) 0 (V0 m) [hostOps1] c main_cst_6 = constant S_ .f32 0x00000000#32 := by
  unfold Pipeline.afterTail₀
  show StableHlo.after hostOps1 _ (Proc.devRef .tc main_cst_6) = _
  after_results

/-- Every run of the program ends with the gates and the counts of the result, and a zero. -/
theorem run (ρ : Dev nD → PrngReg) : θ_run defs (onTc (τ := τ) (main (F := F))) ⟨m, fun _ => 0, ρ⟩ (fun r => ∀ c : Dev nD,
      r.2.mem ((c : Thread nD τ).loc main_v24) = gates (result m c)
      ∧ r.2.mem ((c : Thread nD τ).loc main_v26) = counts (result m c)
      ∧ r.2.mem ((c : Thread nD τ).loc main_cst_6) = constant S_ .f32 0x00000000#32) :=
  (θ_run defs _ _).mono (fun _ h c =>
    ⟨((h c).2 main_v24 (Pipeline.mem_restRefs_of main_v24 (by decide) (by decide))).trans (tail_v24 m c),
      ((h c).2 main_v26 (Pipeline.mem_restRefs_of main_v26 (by decide) (by decide))).trans (tail_v26 m c),
      ((h c).2 main_cst_6 (Pipeline.mem_restRefs_of main_cst_6 (by decide) (by decide))).trans (tail_cst m c)⟩)
    (run_main m ρ)

end Cert.KernelIdeal.Router

end
-- ==== Proof.Blocks.lean ====
/-
  What each window of the kernel reads of its array at a grid point.
-/
module

public import proofs.«01_k».proof.Proof.Gen.KernelIdeal.Frame
public import Idealize.ShloMosaic.Lib.Pipeline.Value
public import Idealize.ShloMosaic.Lib.Pointwise

@[expose] public section

noncomputable section

namespace Cert.KernelIdeal.Router

open Idealize.ShloMosaic Idealize.ShloMosaic.TcCoe Idealize.SL.Sem
open Cert.KernelIdeal Cert.KernelIdeal.Gen

variable {F : FTy → Type} [FloatOps F] (m : (ℓ : Loc nD τ sig) → Buf (Elt F) ℓ) (c : Dev nD)

/-- The threshold's window is its whole array. -/
theorem block0 (t : Fin cfg0.N) : (iblk m c 0 t : Vec F S1 .f32) = V m c main_v18 := by
  have hi : ∀ t : Fin cfg0.N, win0_0.index t 0 = 0 := by decide +kernel
  funext j
  unfold iblk
  rw [View.read_apply]
  show V m c main_v18 _ = V m c main_v18 _
  congr 1
  funext a
  apply Fin.ext
  match a with
  | ⟨0, _⟩ => show win0_0.index t 0 * 1 + 1 * (j 0).val = (j 0).val; rw [hi t]; omega

/-- Point `t` reads feature channels `4t` to `4t + 3`. -/
theorem block1 (t : Fin cfg0.N) (a : Fin 4) (p : Fin 256) (n : Fin 4096) :
    (iblk m c 1 t : Vec F S4x256x4096 .f32) (ix3 a p n)
      = (V m c main_v1 : Vec F S96x256x4096 .f32) (ix3 ⟨4 * t.val + a.val, by have := t.isLt; have : cfg0.N = 24 := N_0; omega⟩ p n) := by
  have hi : ∀ t : Fin cfg0.N, win0_1.index t 0 = t.val ∧ win0_1.index t 1 = 0 ∧ win0_1.index t 2 = 0 := by decide +kernel
  unfold iblk
  rw [View.read_apply]
  show V m c main_v1 _ = V m c main_v1 _
  congr 1
  funext b
  apply Fin.ext
  match b with
  | ⟨0, _⟩ => show win0_1.index t 0 * 4 + 1 * a.val = 4 * t.val + a.val; rw [(hi t).1]; omega
  | ⟨1, _⟩ => show win0_1.index t 1 * 256 + 1 * p.val = p.val; rw [(hi t).2.1]; omega
  | ⟨2, _⟩ => show win0_1.index t 2 * 4096 + 1 * n.val = n.val; rw [(hi t).2.2]; omega

/-- Point `t` reads weight block `t`. -/
theorem block2 (t : Fin cfg0.N) (u : Fin 1) (h : Fin 256) (k : Fin 64) :
    (iblk m c 2 t : Vec F S1x256x64 .f32) (ix3 u h k)
      = (V m c main_v4 : Vec F S24x256x64 .f32) (ix3 ⟨t.val, lt_of_lt_of_eq t.isLt N_0⟩ h k) := by
  have hi : ∀ t : Fin cfg0.N, win0_2.index t 0 = t.val ∧ win0_2.index t 1 = 0 ∧ win0_2.index t 2 = 0 := by decide +kernel
  unfold iblk
  rw [View.read_apply]
  show V m c main_v4 _ = V m c main_v4 _
  congr 1
  funext b
  apply Fin.ext
  match b with
  | ⟨0, _⟩ => show win0_2.index t 0 * 1 + 1 * u.val = t.val; rw [(hi t).1]; omega
  | ⟨1, _⟩ => show win0_2.index t 1 * 256 + 1 * h.val = h.val; rw [(hi t).2.1]; omega
  | ⟨2, _⟩ => show win0_2.index t 2 * 64 + 1 * k.val = k.val; rw [(hi t).2.2]; omega

/-- The window of the first layer's bias is its whole array. -/
theorem block3 (t : Fin cfg0.N) : (iblk m c 3 t : Vec F S256x1 .f32) = V m c main_v19 := by
  have hi : ∀ t : Fin cfg0.N, win0_3.index t 0 = 0 ∧ win0_3.index t 1 = 0 := by decide +kernel
  funext j
  unfold iblk
  rw [View.read_apply]
  show V m c main_v19 _ = V m c main_v19 _
  congr 1
  funext b
  apply Fin.ext
  match b with
  | ⟨0, _⟩ => show win0_3.index t 0 * 256 + 1 * (j 0).val = (j 0).val; rw [(hi t).1]; omega
  | ⟨1, _⟩ => show win0_3.index t 1 * 1 + 1 * (j 1).val = (j 1).val; rw [(hi t).2]; omega

/-- The window of the scale is its whole array. -/
theorem block4 (t : Fin cfg0.N) : (iblk m c 4 t : Vec F S256x1 .f32) = V m c main_v20 := by
  have hi : ∀ t : Fin cfg0.N, win0_4.index t 0 = 0 ∧ win0_4.index t 1 = 0 := by decide +kernel
  funext j
  unfold iblk
  rw [View.read_apply]
  show V m c main_v20 _ = V m c main_v20 _
  congr 1
  funext b
  apply Fin.ext
  match b with
  | ⟨0, _⟩ => show win0_4.index t 0 * 256 + 1 * (j 0).val = (j 0).val; rw [(hi t).1]; omega
  | ⟨1, _⟩ => show win0_4.index t 1 * 1 + 1 * (j 1).val = (j 1).val; rw [(hi t).2]; omega

/-- The window of the shift is its whole array. -/
theorem block5 (t : Fin cfg0.N) : (iblk m c 5 t : Vec F S256x1 .f32) = V m c main_v21 := by
  have hi : ∀ t : Fin cfg0.N, win0_5.index t 0 = 0 ∧ win0_5.index t 1 = 0 := by decide +kernel
  funext j
  unfold iblk
  rw [View.read_apply]
  show V m c main_v21 _ = V m c main_v21 _
  congr 1
  funext b
  apply Fin.ext
  match b with
  | ⟨0, _⟩ => show win0_5.index t 0 * 256 + 1 * (j 0).val = (j 0).val; rw [(hi t).1]; omega
  | ⟨1, _⟩ => show win0_5.index t 1 * 1 + 1 * (j 1).val = (j 1).val; rw [(hi t).2]; omega

/-- The window of the second layer's weights is its whole array. -/
theorem block6 (t : Fin cfg0.N) : (iblk m c 6 t : Vec F S16x256 .f32) = V m c main_v7 := by
  have hi : ∀ t : Fin cfg0.N, win0_6.index t 0 = 0 ∧ win0_6.index t 1 = 0 := by decide +kernel
  funext j
  unfold iblk
  rw [View.read_apply]
  show V m c main_v7 _ = V m c main_v7 _
  congr 1
  funext b
  apply Fin.ext
  match b with
  | ⟨0, _⟩ => show win0_6.index t 0 * 16 + 1 * (j 0).val = (j 0).val; rw [(hi t).1]; omega
  | ⟨1, _⟩ => show win0_6.index t 1 * 256 + 1 * (j 1).val = (j 1).val; rw [(hi t).2]; omega

/-- The window of the second layer's bias is its whole array. -/
theorem block7 (t : Fin cfg0.N) : (iblk m c 7 t : Vec F S16x1 .f32) = V m c main_v12 := by
  have hi : ∀ t : Fin cfg0.N, win0_7.index t 0 = 0 ∧ win0_7.index t 1 = 0 := by decide +kernel
  funext j
  unfold iblk
  rw [View.read_apply]
  show V m c main_v12 _ = V m c main_v12 _
  congr 1
  funext b
  apply Fin.ext
  match b with
  | ⟨0, _⟩ => show win0_7.index t 0 * 16 + 1 * (j 0).val = (j 0).val; rw [(hi t).1]; omega
  | ⟨1, _⟩ => show win0_7.index t 1 * 1 + 1 * (j 1).val = (j 1).val; rw [(hi t).2]; omega

end Cert.KernelIdeal.Router

end
-- ==== Proof.Contract.lean ====
/-
  One grid point's contribution to the accumulator: every entry gains its weight block's row against the sums of the
  block's four-by-four cells.
-/
module

public import proofs.«01_k».proof.Proof.Steps

@[expose] public section

set_option maxRecDepth 16384
noncomputable section

namespace Cert.KernelIdeal.Router
open Idealize.ShloMosaic Cert.KernelIdeal Cert.KernelIdeal.Gen

/-- The sum of the sixteen features of cell `k` of a block of four channels: `k` counts the cells by column of cells,
    then channel, then row of cells. -/
def cell (x : FVec Ideal S4x256x4096 .f32) (k : Fin 64) (n : Fin 4096) : EReal :=
  ∑ l : Fin 4, ∑ i : Fin 4, x (ix3 ⟨k.val % 16 / 4, by omega⟩ ⟨k.val % 4 * 64 + 16 * i.val + (4 * (k.val / 16) + l.val), by omega⟩ n)

/-- Row `r`, column `q` of the block with the four rows of each cell added. -/
theorem rowsum_apply (x : FVec Ideal S4x256x4096 .f32) (r q : Fin 16) (n : Fin 4096) :
    (k0_pay18 (F := Ideal) x (ix3 r q n) : EReal)
      = ∑ i : Fin 4, x (ix3 ⟨r.val / 4, by omega⟩ ⟨r.val % 4 * 64 + 16 * i.val + q.val, by omega⟩ n) := by
  rw [Fin.sum_univ_four]
  pointwise [k0_pay18]
  simp only [add_assoc]

/-- A sum of four row sums is the cell's sum. -/
theorem cell_of (x : FVec Ideal S4x256x4096 .f32) (j : Fin 4) (r : Fin 16) (k : Fin 64) (n : Fin 4096) (hk : k.val = 16 * j.val + r.val) :
    ∑ l : Fin 4, (k0_pay18 (F := Ideal) x (ix3 r ⟨4 * j.val + l.val, by omega⟩ n) : EReal) = cell x k n := by
  unfold cell
  simp only [rowsum_apply]
  refine Finset.sum_congr rfl fun l _ => Finset.sum_congr rfl fun i _ => congrArg x ?_
  congr 1
  · apply Fin.ext; show r.val / 4 = k.val % 16 / 4; omega
  · apply Fin.ext; show r.val % 4 * 64 + 16 * i.val + (4 * j.val + l.val) = k.val % 4 * 64 + 16 * i.val + (4 * (k.val / 16) + l.val); omega

/-- The first column of cells. -/
theorem piece0 (x : FVec Ideal S4x256x4096 .f32) (r : Fin 16) (k : Fin 64) (n : Fin 4096) (hk : k.val = 16 * 0 + r.val) :
    (k0_pay19 (F := Ideal) x (ix2 r n) : EReal) = cell x k n := by
  rw [← cell_of x 0 r k n hk, Fin.sum_univ_four]
  pointwise [k0_pay19]

/-- The second column of cells. -/
theorem piece1 (x : FVec Ideal S4x256x4096 .f32) (r : Fin 16) (k : Fin 64) (n : Fin 4096) (hk : k.val = 16 * 1 + r.val) :
    (k0_pay20 (F := Ideal) x (ix2 r n) : EReal) = cell x k n := by
  rw [← cell_of x 1 r k n hk, Fin.sum_univ_four]
  pointwise [k0_pay20]

/-- The third column of cells. -/
theorem piece2 (x : FVec Ideal S4x256x4096 .f32) (r : Fin 16) (k : Fin 64) (n : Fin 4096) (hk : k.val = 16 * 2 + r.val) :
    (k0_pay21 (F := Ideal) x (ix2 r n) : EReal) = cell x k n := by
  rw [← cell_of x 2 r k n hk, Fin.sum_univ_four]
  pointwise [k0_pay21]

/-- The last column of cells. -/
theorem piece3 (x : FVec Ideal S4x256x4096 .f32) (r : Fin 16) (k : Fin 64) (n : Fin 4096) (hk : k.val = 16 * 3 + r.val) :
    (k0_pay22 (F := Ideal) x (ix2 r n) : EReal) + k0_pay23 (F := Ideal) x (ix2 r n) + k0_pay18 (F := Ideal) x (ix3 r 15 n) = cell x k n := by
  rw [← cell_of x 3 r k n hk, Fin.sum_univ_four]
  pointwise [k0_pay22, k0_pay23]

/-- The accumulator's entry after one more point. -/
theorem step_apply (x : FVec Ideal S4x256x4096 .f32) (w : FVec Ideal S1x256x64 .f32) (acc : FVec Ideal S256x4096 .f32) (h : Fin 256) (n : Fin 4096) :
    (step (F := Ideal) x w acc (ix2 h n) : EReal)
      = acc (ix2 h n) + ∑ k : Fin 64, w (ix3 0 h k) * Ideal.ofBits .f32 0x3D800000#32 * cell x k n := by
  pointwise [step, k0_pay1]
  congr 1
  refine Finset.sum_congr rfl fun k _ => congrArg _ ?_
  have hk := k.isLt
  by_cases h0 : k.val < 16
  · rw [dif_pos h0]; exact piece0 x ⟨k.val, h0⟩ k n (by show k.val = 16 * 0 + k.val; omega)
  rw [dif_neg h0]
  by_cases h1 : k.val - 16 < 16
  · rw [dif_pos h1]; exact piece1 x ⟨k.val - 16, h1⟩ k n (by show k.val = 16 * 1 + (k.val - 16); omega)
  rw [dif_neg h1]
  by_cases h2 : k.val - 16 - 16 < 16
  · rw [dif_pos h2]; exact piece2 x ⟨k.val - 16 - 16, h2⟩ k n (by show k.val = 16 * 2 + (k.val - 16 - 16); omega)
  rw [dif_neg h2]
  exact piece3 x ⟨k.val - 16 - 16 - 16, by omega⟩ k n (by show k.val = 16 * 3 + (k.val - 16 - 16 - 16); omega)

/-- The accumulator starts at zero. -/
theorem zero_apply (h : Fin 256) (n : Fin 4096) : (k0_pay17 (F := Ideal) (ix2 h n) : EReal) = 0 := by
  pointwise [k0_pay17]

end Cert.KernelIdeal.Router
end
-- ==== Proof.Spec.lean ====
/-
  The router's mathematics for one token, over the extended reals: the pooled features, the normalised and activated hidden layer, the
  twelve logits, their softmax, how many experts are active, and the gate that keeps the best of them.
  Nothing here names a program: the kernel's array and the reference's result are both read as these functions.
-/
module

public import Idealize.ShloMosaic.Lib.Pointwise

@[expose] public section

noncomputable section

namespace Cert.Router

open Idealize.ShloMosaic

/-- Feature `f` of a token: the mean of one four-by-four cell of one of its 96 channels; `f` counts the cells by channel,
    row of cells, column of cells. -/
def feature (x : Fin 96 → Fin 16 → Fin 16 → EReal) (f : Fin 1536) : EReal :=
  Ideal.div (∑ i : Fin 4, ∑ l : Fin 4, x ⟨f.val / 16, by omega⟩ ⟨4 * (f.val / 4 % 4) + i.val, by omega⟩ ⟨4 * (f.val % 4) + l.val, by omega⟩)
    (Ideal.ofBits .f32 0x41800000#32)

/-- The first layer at hidden unit `h`: its row of `w` against the features, plus its bias. -/
def layer (x : Fin 96 → Fin 16 → Fin 16 → EReal) (w : Fin 256 → Fin 1536 → EReal) (b : Fin 256 → EReal) (h : Fin 256) : EReal :=
  (∑ f, w h f * feature x f) + b h

/-- The mean of the 256 hidden values. -/
def mean (x : Fin 256 → EReal) : EReal := Ideal.div (∑ h, x h) (Ideal.ofBits .f32 0x43800000#32)

/-- Their variance: the mean of the squared distances from the mean. -/
def variance (x : Fin 256 → EReal) : EReal :=
  Ideal.div (∑ h, (x h - mean x) * (x h - mean x)) (Ideal.ofBits .f32 0x43800000#32)

/-- Layer normalisation at hidden unit `h`, with scale `g` and shift `s`. -/
def normed (x g s : Fin 256 → EReal) (h : Fin 256) : EReal :=
  Ideal.div (x h - mean x) (Ideal.sqrt (variance x + Ideal.ofBits .f32 0x3727C5AC#32)) * g h + s h

/-- The GELU of `y` in its error function form: half of `y` times one plus `erf` of `y` over root two. -/
def gelu (y : EReal) : EReal :=
  Ideal.ofBits .f32 0x3F000000#32 * y * (1 + Ideal.erf (y * Ideal.ofBits .f32 0x3F3504F3#32))

/-- The logit of expert `e`: its row of `w` against the activated hidden layer, plus its bias. -/
def logit (x g s : Fin 256 → EReal) (w : Fin 12 → Fin 256 → EReal) (b : Fin 12 → EReal) (e : Fin 12) : EReal :=
  (∑ k, w e k * gelu (normed x g s k)) + b e

/-- The greatest of the twelve logits. -/
def top (L : Fin 12 → EReal) : EReal := Finset.univ.fold max ⊥ L

/-- The unscaled softmax weight of expert `e`. -/
def weight (L : Fin 12 → EReal) (e : Fin 12) : EReal := Ideal.exp (L e - top L)

/-- The softmax of the logits at expert `e`. -/
def prob (L : Fin 12 → EReal) (e : Fin 12) : EReal := Ideal.div (weight L e) (∑ j, weight L j)

/-- The threshold a probability must exceed: the logistic of `t`, but at least a twelfth. -/
def threshold (t : EReal) : EReal :=
  max (Ideal.div 1 (1 + Ideal.exp (-t))) (Ideal.ofBits .f32 0x3DAAAAAB#32)

/-- How many experts' probabilities exceed the threshold `θ`, kept between one and four. -/
def active (θ : EReal) (P : Fin 12 → EReal) : EReal :=
  min (Ideal.ofBits .f32 0x40800000#32) (max 1 (∑ e, if θ < P e then (1 : EReal) else 0))

/-- Expert `j` stands before expert `e`: it is more probable, or equally probable with the lower number. -/
def Before (P : Fin 12 → EReal) (j e : Fin 12) : Prop := P e < P j ∨ P j = P e ∧ j < e

/-- The place of expert `e` in that order: how many experts stand before it. -/
def rank (P : Fin 12 → EReal) (e : Fin 12) : ℕ := by
  classical exact (Finset.univ.filter fun j => Before P j e).card

/-- Whether place `r` is among the first `k` places, `k` a 32-bit word read signed. -/
def on (k : BitVec 32) (r : ℕ) : Bool := (BitVec.ofNat 32 r).slt k

/-- The probability of expert `e` if its place is among the first `k`, else zero. -/
def kept (k : BitVec 32) (P : Fin 12 → EReal) (e : Fin 12) : EReal := if on k (rank P e) = true then P e else 0

/-- The gate of expert `e`: the kept probability over the sum of the kept ones, with a small number added below. -/
def gate (k : BitVec 32) (P : Fin 12 → EReal) (e : Fin 12) : EReal :=
  Ideal.div (kept k P e) ((∑ j, kept k P j) + Ideal.ofBits .f32 0x322BCC77#32)

end Cert.Router

end
-- ==== Proof.Entry.lean ====
/-
  The arrays the kernel's region is entered with, as the host operations before it make them of @main's arguments.
-/
module

public import proofs.«01_k».proof.Proof.Gen.KernelIdeal.Frame
public import Idealize.ShloMosaic.Lib.StableHlo.Run

@[expose] public section

noncomputable section

namespace Cert.KernelIdeal.Router

open Idealize.ShloMosaic Idealize.ShloMosaic.TcCoe Idealize.SL.Sem
open Cert.KernelIdeal Cert.KernelIdeal.Gen

variable {F : FTy → Type} [FloatOps F] (m : (ℓ : Loc nD τ sig) → Buf (Elt F) ℓ) (c : Dev nD)

/-- The threshold as the host computes it: the logistic of the last argument, at least a twelfth; an array of one. -/
def hostThreshold (t : FVec F S_ .f32) : FVec F S1 .f32 :=
  shapeCast S1 (maximumf (Host.divf (constant S_ .f32 0x3F800000#32) (addf (constant S_ .f32 0x3F800000#32) (Host.exp (Host.negf t))))
    (constant S_ .f32 0x3DAAAAAB#32)) shapeCasts_S_S1

/-- The feature maps with the tokens last and the two spatial axes joined. -/
def hostFeatures (x : FVec F S4096x96x16x16 .f32) : FVec F S96x256x4096 .f32 :=
  shapeCast S96x256x4096 (transpose S96x16x16x4096 [1, 2, 3, 0] x transposes_S4096x96x16x16_S96x16x16x4096_1_2_3_0) shapeCasts_S96x16x16x4096_S96x256x4096

/-- The first layer's weights in twenty-four blocks of 64 columns, a block's columns reordered. -/
def hostWeights (w : FVec F S256x1536 .f32) : FVec F S24x256x64 .f32 :=
  shapeCast S24x256x64 (transpose S24x256x4x4x4 [1, 0, 4, 2, 3] (shapeCast S256x24x4x4x4 w shapeCasts_S256x1536_S256x24x4x4x4) transposes_S256x24x4x4x4_S24x256x4x4x4_1_0_4_2_3) shapeCasts_S24x256x4x4x4_S24x256x64

/-- A vector of 256 as a column. -/
def hostColumn (b : FVec F S256 .f32) : FVec F S256x1 .f32 := shapeCast S256x1 b shapeCasts_S256_S256x1

/-- The second layer's weights over sixteen rows, the last four zero. -/
def hostWeights2 (w : FVec F S12x256 .f32) : FVec F S16x256 .f32 :=
  Host.scatter scatter_S16x256_S1_S12x256_01_n_0_0 (fun _ b => b) (broadcastInDim S16x256 ![] bcast_S_S16x256 (constant S_ .f32 0x00000000#32))
    (broadcastInDim S1 ![] bcast_S_S1 (constantI S_ 32 0#32)) w

/-- The second layer's biases over sixteen rows, the last four zero. -/
def hostBiases2 (b : FVec F S12 .f32) : FVec F S16x1 .f32 :=
  Host.scatter scatter_S16x1_S2_S12_0_1_01_0 (fun _ b => b) (broadcastInDim S16x1 ![] bcast_S_S16x1 (constant S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) b

/-- The threshold array at entry. -/
theorem V_v18 : V m c main_v18 = hostThreshold (m ((c : Thread nD τ).loc main_arg7)) := by
  show StableHlo.after hostOps0 _ (Proc.devRef .tc main_v18) = _
  after_results; rfl
/-- The feature array at entry. -/
theorem V_v1 : V m c main_v1 = hostFeatures (m ((c : Thread nD τ).loc main_arg0)) := by
  show StableHlo.after hostOps0 _ (Proc.devRef .tc main_v1) = _
  after_results; rfl
/-- The first layer's weights at entry. -/
theorem V_v4 : V m c main_v4 = hostWeights (m ((c : Thread nD τ).loc main_arg1)) := by
  show StableHlo.after hostOps0 _ (Proc.devRef .tc main_v4) = _
  after_results; rfl
/-- The first layer's biases at entry. -/
theorem V_v19 : V m c main_v19 = hostColumn (m ((c : Thread nD τ).loc main_arg2)) := by
  show StableHlo.after hostOps0 _ (Proc.devRef .tc main_v19) = _
  after_results; rfl
/-- The normalisation's scales at entry. -/
theorem V_v20 : V m c main_v20 = hostColumn (m ((c : Thread nD τ).loc main_arg3)) := by
  show StableHlo.after hostOps0 _ (Proc.devRef .tc main_v20) = _
  after_results; rfl
/-- The normalisation's shifts at entry. -/
theorem V_v21 : V m c main_v21 = hostColumn (m ((c : Thread nD τ).loc main_arg4)) := by
  show StableHlo.after hostOps0 _ (Proc.devRef .tc main_v21) = _
  after_results; rfl
/-- The second layer's weights at entry. -/
theorem V_v7 : V m c main_v7 = hostWeights2 (m ((c : Thread nD τ).loc main_arg5)) := by
  show StableHlo.after hostOps0 _ (Proc.devRef .tc main_v7) = _
  after_results; rfl
/-- The second layer's biases at entry. -/
theorem V_v12 : V m c main_v12 = hostBiases2 (m ((c : Thread nD τ).loc main_arg6)) := by
  show StableHlo.after hostOps0 _ (Proc.devRef .tc main_v12) = _
  after_results; rfl

end Cert.KernelIdeal.Router

end
-- ==== Proof.HostReads.lean ====
/-
  The arrays the region is entered with, at an index, as entries of @main's arguments.
-/
module

public import proofs.«01_k».proof.Proof.Spec
public import proofs.«01_k».proof.Proof.Entry

@[expose] public section

set_option maxRecDepth 16384
noncomputable section

namespace Cert.KernelIdeal.Router
open Idealize.ShloMosaic Cert.KernelIdeal Cert.KernelIdeal.Gen

/-- The feature maps, tokens last: entry `(c, p, n)` is token `n`'s channel `c` at row `p / 16`, column `p % 16`. -/
theorem hostFeatures_apply (x : FVec Ideal S4096x96x16x16 .f32) (c : Fin 96) (p : Fin 256) (n : Fin 4096) :
    (hostFeatures (F := Ideal) x (ix3 c p n) : EReal) = x (ix4 n c ⟨p.val / 16, by omega⟩ ⟨p.val % 16, by omega⟩) := by
  pointwise [hostFeatures]

/-- The weights in blocks: block `t`'s column `k` is the argument's column `64 * t + (4 * (k % 16) + k / 16)`. -/
theorem hostWeights_apply (w : FVec Ideal S256x1536 .f32) (t : Fin 24) (h : Fin 256) (k : Fin 64) :
    (hostWeights (F := Ideal) w (ix3 t h k) : EReal)
      = w (ix2 h ⟨64 * t.val + (4 * (k.val % 16) + k.val / 16), by omega⟩) := by
  pointwise [hostWeights]
  refine congrArg (fun f => (w (ix2 h f) : EReal)) (Fin.ext ?_)
  show t.val * 64 + k.val / 4 % 4 * 16 + k.val % 4 * 4 + k.val / 16 = 64 * t.val + (4 * (k.val % 16) + k.val / 16)
  omega

/-- A column's entries are the vector's. -/
theorem hostColumn_apply (b : FVec Ideal S256 .f32) (h : Fin 256) (u : Fin 1) :
    (hostColumn (F := Ideal) b (ix2 h u) : EReal) = b (ix1 h) := by
  pointwise [hostColumn]

/-- The one entry of the threshold array. -/
theorem hostThreshold_apply (t : FVec Ideal S_ .f32) (u : Fin 1) :
    (hostThreshold (F := Ideal) t (ix1 u) : EReal) = Cert.Router.threshold (t ix0) := by
  unfold Cert.Router.threshold
  pointwise [hostThreshold]

end Cert.KernelIdeal.Router
end
-- ==== Proof.Literals.lean ====
/-
  The float literals of the two programs whose numbers matter to the proof.
-/
module

public import Idealize.ShloMosaic.Lib.Pointwise

@[expose] public section

noncomputable section

namespace Cert.Router
open Idealize.ShloMosaic

/-- `0x3D800000` is a sixteenth. -/
theorem lit_sixteenth : Ideal.ofBits .f32 0x3D800000#32 = ((1 / 16 : ℝ) : EReal) := by
  simp [Ideal.ofBits, Ideal.ieee, -EReal.coe_mul]; norm_num

/-- `0x41800000` is sixteen. -/
theorem lit_sixteen : Ideal.ofBits .f32 0x41800000#32 = ((16 : ℝ) : EReal) := by
  simp [Ideal.ofBits, Ideal.ieee, -EReal.coe_mul]; norm_num

/-- `0x40800000` is four. -/
theorem lit_four : Ideal.ofBits .f32 0x40800000#32 = ((4 : ℝ) : EReal) := by
  simp [Ideal.ofBits, Ideal.ieee, -EReal.coe_mul]; norm_num

/-- `0xFF800000` is minus infinity. -/
theorem lit_bot : Ideal.ofBits .f32 0xFF800000#32 = ⊥ := by
  simp [Ideal.ofBits, Ideal.ieee]

/-- `0x3DAAAAAB`, close to a twelfth, is positive. -/
theorem lit_twelfth_pos : 0 < Ideal.ofBits .f32 0x3DAAAAAB#32 := by
  simp [Ideal.ofBits, Ideal.ieee, -EReal.coe_mul]

/-- `0x322BCC77`, close to one over a hundred million, is a positive real. -/
theorem lit_small : ∃ ε : ℝ, 0 < ε ∧ Ideal.ofBits .f32 0x322BCC77#32 = (ε : EReal) := by
  refine ⟨_, ?_, by simp [Ideal.ofBits, Ideal.ieee, -EReal.coe_mul]; rfl⟩
  norm_num

end Cert.Router
end
-- ==== Proof.Features.lean ====
/-
  The finished accumulator: every entry is the token's pooled features against a row of the first layer's weights.
-/
module

public import proofs.«01_k».proof.Proof.Launch
public import proofs.«01_k».proof.Proof.Blocks
public import proofs.«01_k».proof.Proof.Contract
public import proofs.«01_k».proof.Proof.HostReads
public import proofs.«01_k».proof.Proof.Literals

@[expose] public section

noncomputable section

namespace Cert.KernelIdeal.Router
open Idealize.ShloMosaic Idealize.ShloMosaic.TcCoe Idealize.SL.Sem
open Cert.KernelIdeal Cert.KernelIdeal.Gen

/-- The order in which a block holds its 64 features. -/
def order : Fin 64 ≃ Fin 64 where
  toFun k := ⟨4 * (k.val % 16) + k.val / 16, by omega⟩
  invFun j := ⟨16 * (j.val % 4) + j.val / 4, by omega⟩
  left_inv k := Fin.ext (by show 16 * ((4 * (k.val % 16) + k.val / 16) % 4) + (4 * (k.val % 16) + k.val / 16) / 4 = k.val; omega)
  right_inv j := Fin.ext (by show 4 * ((16 * (j.val % 4) + j.val / 4) % 16) + (16 * (j.val % 4) + j.val / 4) / 16 = j.val; omega)

/-- A sum over the 1536 features, block by block in that order. -/
theorem sum_blocks (g : Fin 1536 → EReal) :
    ∑ f, g f = ∑ t : Fin 24, ∑ k : Fin 64, g ⟨64 * t.val + (4 * (k.val % 16) + k.val / 16), by omega⟩ := by
  have h : ∑ f, g f = ∑ t : Fin 24, ∑ j : Fin 64, g ⟨64 * t.val + j.val, by omega⟩ := by
    rw [← Fintype.sum_prod_type', ← Equiv.sum_comp (finProdFinEquiv : Fin 24 × Fin 64 ≃ Fin 1536)]
    exact Finset.sum_congr rfl fun q _ => congrArg g (Fin.ext (by show q.2.val + 64 * q.1.val = 64 * q.1.val + q.2.val; omega))
  rw [h]
  exact Finset.sum_congr rfl fun t _ => (Equiv.sum_comp order fun j : Fin 64 => g ⟨64 * t.val + j.val, by omega⟩).symm

variable (m : (ℓ : Loc nD τ sig) → Buf (Elt Ideal) ℓ) (c : Dev nD)

/-- Token `n`'s feature map, of the first argument. -/
def token (n : Fin 4096) (ch : Fin 96) (p q : Fin 16) : EReal :=
  (m ((c : Thread nD τ).loc main_arg0) : FVec Ideal S4096x96x16x16 .f32) (ix4 n ch p q)

/-- The first layer's weights, of the second argument. -/
def weights (h : Fin 256) (f : Fin 1536) : EReal := (m ((c : Thread nD τ).loc main_arg1) : FVec Ideal S256x1536 .f32) (ix2 h f)

/-- A block's cell, scaled, is a feature of the token. -/
theorem cell_feature (t : Fin cfg0.N) (k : Fin 64) (n : Fin 4096) (f : Fin 1536) (hf : f.val = 64 * t.val + (4 * (k.val % 16) + k.val / 16)) :
    Ideal.ofBits .f32 0x3D800000#32 * cell (iblk m c 1 t) k n = Cert.Router.feature (token m c n) f := by
  have ht : t.val < 24 := lt_of_lt_of_eq t.isLt N_0
  unfold Cert.Router.feature
  rw [Cert.Router.lit_sixteen, Ideal.div_coe (by norm_num), Cert.Router.lit_sixteenth, mul_comm, Finset.sum_comm]
  congr 1
  refine Finset.sum_congr rfl fun l _ => Finset.sum_congr rfl fun i _ => ?_
  rw [block1, V_v1, hostFeatures_apply]
  unfold token
  have hk := k.isLt
  have h0 : f.val / 4 = 16 * t.val + k.val % 16 := by omega
  have h1 : f.val / 4 % 4 = k.val % 4 := by omega
  have h2 : f.val % 4 = k.val / 16 := by omega
  have h3 : k.val % 4 < 4 := by omega
  have h4 : k.val / 16 < 4 := by omega
  congr 2
  · apply Fin.ext; show 4 * t.val + k.val % 16 / 4 = f.val / 16; omega
  · apply Fin.ext; show (k.val % 4 * 64 + 16 * i.val + (4 * (k.val / 16) + l.val)) / 16 = 4 * (f.val / 4 % 4) + i.val
    rw [h1]; generalize k.val % 4 = a at *; generalize k.val / 16 = d at *; omega
  · apply Fin.ext; show (k.val % 4 * 64 + 16 * i.val + (4 * (k.val / 16) + l.val)) % 16 = 4 * (f.val % 4) + l.val
    rw [h2]; generalize k.val % 4 = a at *; generalize k.val / 16 = d at *; omega

/-- Feature `f`'s term in hidden unit `h` of token `n`. -/
def term (h : Fin 256) (n : Fin 4096) (f : Fin 1536) : EReal := weights m c h f * Cert.Router.feature (token m c n) f

/-- What one point adds to an entry of the accumulator. -/
theorem step_feature (t : Fin cfg0.N) (acc : FVec Ideal S256x4096 .f32) (h : Fin 256) (n : Fin 4096) :
    (step (F := Ideal) (iblk m c 1 t) (iblk m c 2 t) acc (ix2 h n) : EReal)
      = acc (ix2 h n) + ∑ k : Fin 64, term m c h n ⟨64 * t.val + (4 * (k.val % 16) + k.val / 16), by have := lt_of_lt_of_eq t.isLt N_0; omega⟩ := by
  rw [step_apply]
  congr 1
  refine Finset.sum_congr rfl fun k _ => ?_
  rw [mul_assoc, cell_feature m c t k n ⟨64 * t.val + (4 * (k.val % 16) + k.val / 16), by have := lt_of_lt_of_eq t.isLt N_0; omega⟩ rfl,
    block2, V_v4, hostWeights_apply]
  rfl

/-- The accumulator after point `n`: the features of the first blocks. -/
theorem accum_partial (k : ℕ) (hk : k < cfg0.N) (h : Fin 256) (n : Fin 4096) :
    (accum m c k hk (ix2 h n) : EReal)
      = ∑ t : Fin (k + 1), ∑ j : Fin 64, term m c h n ⟨64 * t.val + (4 * (j.val % 16) + j.val / 16), by have := lt_of_lt_of_eq hk N_0; omega⟩ := by
  induction k with
  | zero =>
    show (step (F := Ideal) _ _ _ (ix2 h n) : EReal) = _
    rw [step_feature, zero_apply, zero_add, Fin.sum_univ_one]
    rfl
  | succ k ih =>
    show (step (F := Ideal) _ _ _ (ix2 h n) : EReal) = _
    rw [step_feature, ih (Nat.lt_of_succ_lt hk)]
    exact (Fin.sum_univ_castSucc fun t : Fin (k + 1 + 1) => ∑ j : Fin 64, term m c h n ⟨64 * t.val + (4 * (j.val % 16) + j.val / 16), by have := lt_of_lt_of_eq hk N_0; omega⟩).symm

/-- The finished accumulator: the whole sum over the features. -/
theorem accum_apply (h : Fin 256) (n : Fin 4096) :
    (accum m c 23 last.isLt (ix2 h n) : EReal) = ∑ f, weights m c h f * Cert.Router.feature (token m c n) f :=
  (accum_partial m c 23 last.isLt h n).trans (sum_blocks (term m c h n)).symm

end Cert.KernelIdeal.Router
end
-- ==== Proof.Padded.lean ====
/-
  The second layer's weights and biases as the region is entered with them: the twelve experts' rows are the arguments'.
-/
module

public import proofs.«01_k».proof.Proof.Spec
public import proofs.«01_k».proof.Proof.Entry
public import Idealize.ShloMosaic.Lib.Routing.OpsOne
public import Idealize.ShloMosaic.Lib.Routing.OpsPair

@[expose] public section

set_option maxRecDepth 16384
noncomputable section

namespace Cert.KernelIdeal.Router
open Idealize.ShloMosaic Cert.KernelIdeal Cert.KernelIdeal.Gen

/-- The one index word of the weights' scatter, at zero: row `a`, column `k` lands at itself. -/
theorem weights2_lands (idx : IVec S1 32) (hidx : ∀ i, idx i = 0#32) (a : Fin 12) (k : Fin 256) (r : Fin 16) (l : Fin 256) :
    scatter_S16x256_S1_S12x256_01_n_0_0.resultIdx? (ix2 a k : S12x256.Idx) idx = some (ix2 r l : S16x256.Idx) ↔ a.val = r.val ∧ k.val = l.val := by
  have hw0 : scatter_S16x256_S1_S12x256_01_n_0_0.window (ix2 a k : S12x256.Idx) 0 = a.val := by
    unfold ScatterDims.window
    exact dif_pos (show (0 : Fin 2) ∈ scatter_S16x256_S1_S12x256_01_n_0_0.sKept by decide)
  have hw1 : scatter_S16x256_S1_S12x256_01_n_0_0.window (ix2 a k : S12x256.Idx) 1 = k.val := by
    unfold ScatterDims.window
    exact dif_pos (show (1 : Fin 2) ∈ scatter_S16x256_S1_S12x256_01_n_0_0.sKept by decide)
  have hs0 : scatter_S16x256_S1_S12x256_01_n_0_0.start (ix2 a k : S12x256.Idx) idx 0 = 0 := by
    unfold ScatterDims.start
    rw [dif_pos (show (0 : Fin 2) ∈ scatter_S16x256_S1_S12x256_01_n_0_0.scatterDimsToOperandDims by decide), hidx]
    rfl
  have hs1 : scatter_S16x256_S1_S12x256_01_n_0_0.start (ix2 a k : S12x256.Idx) idx 1 = 0 := by
    unfold ScatterDims.start
    exact dif_neg (show ¬(1 : Fin 2) ∈ scatter_S16x256_S1_S12x256_01_n_0_0.scatterDimsToOperandDims by decide)
  refine (Routing.resultIdx?_ix2 scatter_S16x256_S1_S12x256_01_n_0_0 _ idx r l).trans ?_
  rw [hw0, hw1, hs0, hs1]
  omega

/-- An expert's row of the padded weights is the argument's. -/
theorem hostWeights2_apply (w : FVec Ideal S12x256 .f32) (e : Fin 12) (k : Fin 256) :
    (hostWeights2 (F := Ideal) w (ix2 (e.castAdd 4 : Fin 16) k) : EReal) = w (ix2 e k) := by
  have hidx : ∀ i, broadcastInDim S1 ![] bcast_S_S1 (constantI S_ 32 0#32) i = 0#32 := fun _ => rfl
  unfold hostWeights2
  refine Routing.scatter_set_hit _ _ _ _ _ _ (fun j hj => ?_) (ix2 e k) ((weights2_lands _ hidx e k _ _).2 ⟨rfl, rfl⟩)
  obtain ⟨a, b, rfl⟩ : ∃ (a : Fin 12) (b : Fin 256), j = ix2 a b := ⟨j 0, j 1, funext fun d => match d with | ⟨0, _⟩ => rfl | ⟨1, _⟩ => rfl⟩
  obtain ⟨h0, h1⟩ := (weights2_lands _ hidx a b _ _).1 hj
  obtain rfl : a = e := Fin.ext h0
  obtain rfl : b = k := Fin.ext h1
  rfl

/-- The pair of index words of the biases' scatter, both zero. -/
theorem biases2_words (i : S2.Idx) :
    concatenate S2 0 [⟨S1, broadcastInDim S1 ![] bcast_S_S1 (constantI S_ 32 0#32)⟩, ⟨S1, broadcastInDim S1 ![] bcast_S_S1 (constantI S_ 32 0#32)⟩] concatenates_S1_S1_S2_d0 i = 0#32 := by
  obtain ⟨q, rfl⟩ : ∃ q : Fin 2, i = ix1 q := ⟨i 0, funext fun d => match d with | ⟨0, _⟩ => rfl⟩
  fin_cases q <;> rfl

/-- An expert's entry of the padded biases is the argument's. -/
theorem hostBiases2_apply (b : FVec Ideal S12 .f32) (e : Fin 12) :
    (hostBiases2 (F := Ideal) b (ix2 (e.castAdd 4 : Fin 16) 0) : EReal) = b (ix1 e) := by
  have lands : ∀ a : Fin 12, scatter_S16x1_S2_S12_0_1_01_0.resultIdx? (ix1 a : S12.Idx)
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      = some (ix2 (e.castAdd 4 : Fin 16) 0 : S16x1.Idx) ↔ a = e := by
    intro a
    refine (Routing.lands_column scatter_S16x1_S2_S12_0_1_01_0 rfl rfl rfl _ a (e.castAdd 4 : Fin 16) 0).trans ?_
    have z : (0#32 : BitVec 32).toInt = 0 := rfl
    have h0 := congrArg BitVec.toInt (biases2_words (ix1 0))
    have h1 := congrArg BitVec.toInt (biases2_words (ix1 1))
    rw [z] at h0 h1
    constructor
    · rintro ⟨q, -⟩
      refine Fin.ext ?_
      have q' : (0 : Int) + (a.val : Int) = (e.val : Int) := by rw [← h0]; exact q
      omega
    · rintro rfl
      refine ⟨?_, h1⟩
      have : (0 : Int) + (a.val : Int) = (a.val : Int) := by omega
      rw [← h0] at this
      exact this
  unfold hostBiases2
  refine Routing.scatter_set_hit _ _ _ _ _ _ (fun j hj => ?_) (ix1 e) ((lands e).2 rfl)
  obtain ⟨a, rfl⟩ : ∃ a : Fin 12, j = ix1 a := ⟨j 0, funext fun d => match d with | ⟨0, _⟩ => rfl⟩
  rw [(lands a).1 hj]

end Cert.KernelIdeal.Router
end
-- ==== Proof.Rank.lean ====
/-
  The stable sort behind the reference's top-k, read as places: the expert that the sort puts at place `k` is the one
  with exactly `k` experts before it.
-/
module

public import proofs.«01_k».proof.Proof.Spec
public import Idealize.ShloMosaic.Lib.SortFacts

@[expose] public section

noncomputable section

namespace Cert.Router

open Idealize.ShloMosaic

variable (P : Fin 12 → EReal)

/-- Standing before is transitive. -/
theorem Before.trans {a b c : Fin 12} (h : Before P a b) (h' : Before P b c) : Before P a c := by
  rcases h with h | ⟨h, l⟩ <;> rcases h' with h' | ⟨h', l'⟩
  · exact .inl (h'.trans h)
  · exact .inl (h' ▸ h)
  · exact .inl (h ▸ h')
  · exact .inr ⟨h.trans h', l.trans l'⟩

/-- No expert stands before itself. -/
theorem Before.irrefl (a : Fin 12) : ¬Before P a a := fun h => h.elim (lt_irrefl _) fun h => lt_irrefl _ h.2

/-- Putting an expert, numbered below all of the list's, into an ordered list keeps it ordered. -/
theorem ordered_insert (R : Fin 12 → Fin 12 → Bool) (hR : ∀ a b, R a b = true ↔ P b < P a) (a : Fin 12) (l : List (Fin 12))
    (ha : ∀ b ∈ l, a < b) (hl : l.Pairwise (Before P)) : (insertBefore R a l).Pairwise (Before P) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore R a l).mem_iff.mp hc) with rfl | hc'
      · exact .inl ((hR _ _).1 h)
      · exact hl.1 c hc'
    · rename_i h
      have hab : Before P a b := by
        rcases lt_or_eq_of_le (not_lt.1 fun q => h ((hR b a).2 q)) with q | q
        · exact .inl q
        · exact .inr ⟨q.symm, ha b List.mem_cons_self⟩
      refine List.pairwise_cons.mpr ⟨fun c hc => ?_, List.pairwise_cons.mpr hl⟩
      rcases List.mem_cons.mp hc with rfl | hc'
      · exact hab
      · exact hab.trans P (hl.1 c hc')

/-- The stable sort of a list in increasing number is ordered. -/
theorem ordered_sort (R : Fin 12 → Fin 12 → Bool) (hR : ∀ a b, R a b = true ↔ P b < P a) (l : List (Fin 12))
    (hl : l.Pairwise (· < ·)) : (stableSort R l).Pairwise (Before P) := by
  induction l with
  | nil => exact List.Pairwise.nil
  | cons a l ih =>
    rw [List.pairwise_cons] at hl
    unfold stableSort
    exact ordered_insert P R hR a _ (fun b hb => hl.1 b ((perm_stableSort R l).mem_iff.1 hb)) (ih hl.2)

/-- An earlier place's expert stands before a later place's. -/
theorem ordered_places (R : Fin 12 → Fin 12 → Bool) (hR : ∀ a b, R a b = true ↔ P b < P a) (i j : Fin 12) (hij : i < j) :
    Before P (sortedFrom R i) (sortedFrom R j) := by
  have hp : ∀ a b : Fin (sortPositions 12 R).length, a < b → Before P ((sortPositions 12 R).get a) ((sortPositions 12 R).get b) :=
    List.pairwise_iff_get.mp (ordered_sort P R hR (List.finRange 12) (List.pairwise_lt_finRange 12))
  unfold sortedFrom
  exact hp _ _ (by simp only [Fin.lt_def, Fin.val_cast]; exact hij)

/-- The expert at place `k` has exactly `k` experts before it. -/
theorem rank_place (R : Fin 12 → Fin 12 → Bool) (hR : ∀ a b, R a b = true ↔ P b < P a) (k : Fin 12) :
    rank P (sortedFrom R k) = k.val := by
  classical
  have h : (Finset.univ.filter fun j => Before P j (sortedFrom R k)) = (Finset.univ.filter fun i : Fin 12 => i < k).image (sortedFrom R) := by
    ext j
    obtain ⟨i, rfl⟩ := sortedFrom_surjective R j
    simp only [Finset.mem_filter, Finset.mem_univ, true_and, Finset.mem_image]
    constructor
    · intro h
      refine ⟨i, ?_, rfl⟩
      rcases lt_trichotomy i k with q | q | q
      · exact q
      · exact absurd (q ▸ h) (Before.irrefl P _)
      · exact absurd (h.trans P (ordered_places P R hR k i q)) (Before.irrefl P _)
    · rintro ⟨i', hi', e⟩
      exact e ▸ ordered_places P R hR i' k hi'
  have : (Finset.univ.filter fun j => Before P j (sortedFrom R k)).card = k.val := by
    rw [h, Finset.card_image_of_injective _ (sortedFrom_injective R)]
    have e : (Finset.univ.filter fun i : Fin 12 => i < k) = Finset.Iio k := by
      ext i
      rw [Finset.mem_filter, Finset.mem_Iio]
      exact and_iff_right (Finset.mem_univ i)
    rw [e, Fin.card_Iio]
  unfold rank
  convert this

/-- So place `k`'s expert is `e` exactly when `e` has `k` experts before it. -/
theorem place_eq_iff (R : Fin 12 → Fin 12 → Bool) (hR : ∀ a b, R a b = true ↔ P b < P a) (k e : Fin 12) :
    sortedFrom R k = e ↔ rank P e = k.val := by
  constructor
  · rintro rfl
    exact rank_place P R hR k
  · intro h
    obtain ⟨i, rfl⟩ := sortedFrom_surjective R e
    rw [rank_place P R hR i] at h
    rw [Fin.ext h]

end Cert.Router

end
-- ==== Proof.Words.lean ====
/-
  The words of the two programs that stand for small numbers: a truth value converted to a float, the number of active
  experts as a word, a place among the first ones.
-/
module

public import proofs.«01_k».proof.Proof.Spec
public import proofs.«01_k».proof.Proof.Rank
public import proofs.«01_k».proof.Proof.Literals

@[expose] public section

noncomputable section

namespace Cert.Router
open Idealize.ShloMosaic

/-- A truth value read unsigned is one or zero. -/
theorem uitofp_ofBool (p : Bool) : (FloatOps.uitofp (F := Ideal) .f32 (BitVec.ofBool p) : EReal) = if p = true then 1 else 0 := by
  cases p <;> simp [FloatOps.uitofp]

/-- The word one is the number one. -/
theorem sitofp_one : (FloatOps.sitofp (F := Ideal) .f32 1#32 : EReal) = 1 := by
  show (((1#32 : BitVec 32).toInt : ℝ) : EReal) = 1
  rw [show (1#32 : BitVec 32).toInt = 1 by decide]; norm_num

/-- The word four is the number four. -/
theorem sitofp_four : (FloatOps.sitofp (F := Ideal) .f32 4#32 : EReal) = Ideal.ofBits .f32 0x40800000#32 := by
  show (((4#32 : BitVec 32).toInt : ℝ) : EReal) = _
  rw [lit_four, show (4#32 : BitVec 32).toInt = 4 by decide]; norm_num

/-- A truth value widened to a word and read signed is one or zero. -/
theorem sitofp_ofBool (p : Bool) : (FloatOps.sitofp (F := Ideal) .f32 (BitVec.setWidth 32 (BitVec.ofBool p)) : EReal) = if p = true then 1 else 0 := by
  cases p
  · show (((BitVec.setWidth 32 (BitVec.ofBool false)).toInt : ℝ) : EReal) = _
    rw [show (BitVec.setWidth 32 (BitVec.ofBool false)).toInt = 0 by decide]; norm_num
  · show (((BitVec.setWidth 32 (BitVec.ofBool true)).toInt : ℝ) : EReal) = _
    rw [show (BitVec.setWidth 32 (BitVec.ofBool true)).toInt = 1 by decide]; norm_num

/-- A small number's word, read signed, is the number. -/
theorem toInt_small (r : ℕ) (hr : r < 2 ^ 31) : (BitVec.ofNat 32 r).toInt = r := by
  rw [BitVec.toInt_eq_toNat_cond, BitVec.toNat_ofNat, if_pos (by omega)]; omega

/-- The word of a number at most four is at most four. -/
theorem fptosi_le_four (y : EReal) (hy : y ≤ ((4 : ℝ) : EReal)) : (Ideal.fptosi 32 y).toInt ≤ 4 := by
  have key : ∀ z : ℤ, -2 ^ 31 ≤ z → z ≤ 4 → (BitVec.ofInt 32 z).toInt ≤ 4 := by
    intro z h1 h2
    rw [BitVec.toInt_ofInt, Int.bmod_def]
    split <;> omega
  unfold Ideal.fptosi
  induction y with
  | bot => exact key _ (by norm_num) (by norm_num)
  | top => exact absurd hy (by simp)
  | coe r =>
    have hr : r ≤ 4 := by exact_mod_cast hy
    rw [Ideal.toIntClamped_coe]
    refine key _ (le_trans (by norm_num) (le_max_left _ _)) (max_le (by norm_num) (le_trans (min_le_right _ _) ?_))
    split
    · exact Int.cast_le.mp (le_trans (Int.floor_le r) (by exact_mod_cast hr) : ((⌊r⌋ : ℤ) : ℝ) ≤ ((4 : ℤ) : ℝ))
    · exact Int.ceil_le.mpr (by exact_mod_cast hr)

/-- The word of the number of active experts. -/
def word (θ : EReal) (P : Fin 12 → EReal) : BitVec 32 := FloatOps.fptosi (F := Ideal) (φ := .f32) 32 (active θ P)

/-- It is at most four. -/
theorem word_le_four (θ : EReal) (P : Fin 12 → EReal) : (word θ P).toInt ≤ 4 :=
  fptosi_le_four _ (le_trans (min_le_left _ _) (le_of_eq lit_four))

/-- So no place from four on is among the first that many. -/
theorem on_lt_four (θ : EReal) (P : Fin 12 → EReal) (r : ℕ) (hr : r < 2 ^ 31) (h : on (word θ P) r = true) : r < 4 := by
  have h4 := word_le_four θ P
  unfold on at h
  rw [BitVec.slt_iff_toInt_lt, toInt_small r hr] at h
  omega

/-- Two experts of one place are one. -/
theorem rank_injective (P : Fin 12 → EReal) (e e' : Fin 12) (h : rank P e = rank P e') (he : rank P e < 12) : e = e' := by
  classical
  have hR : ∀ a b, (fun a b => decide (P b < P a)) a b = true ↔ P b < P a := fun a b => decide_eq_true_iff
  exact ((place_eq_iff P _ hR ⟨rank P e, he⟩ e).2 rfl).symm.trans ((place_eq_iff P _ hR ⟨rank P e, he⟩ e').2 h.symm)

/-- A place is below twelve. -/
theorem rank_lt (P : Fin 12 → EReal) (e : Fin 12) : rank P e < 12 := by
  classical
  have hR : ∀ a b, (fun a b => decide (P b < P a)) a b = true ↔ P b < P a := fun a b => decide_eq_true_iff
  obtain ⟨i, rfl⟩ := sortedFrom_surjective (fun a b => decide (P b < P a)) e
  rw [rank_place P _ hR i]; exact i.isLt

end Cert.Router
end
-- ==== Proof.Epilogue.lean ====
/-
  The last point's payloads at an index: the activated hidden layer, the sixteen rows of probabilities, the number of
  active experts, the count of the rows standing before a row, the result.
-/
module

public import proofs.«01_k».proof.Proof.Words
public import proofs.«01_k».proof.Proof.Steps

@[expose] public section

set_option maxRecDepth 16384
noncomputable section

namespace Cert.KernelIdeal.Router
open Idealize.ShloMosaic Cert.KernelIdeal Cert.KernelIdeal.Gen

/-- The activated hidden layer. -/
theorem hidden_apply (a : FVec Ideal S256x4096 .f32) (b1 g s : FVec Ideal S256x1 .f32) (h : Fin 256) (n : Fin 4096) :
    (hidden (F := Ideal) a b1 g s (ix2 h n) : EReal)
      = Cert.Router.gelu (Cert.Router.normed (fun h => (a (ix2 h n) : EReal) + b1 (ix2 h 0)) (fun h => g (ix2 h 0)) (fun h => s (ix2 h 0)) h) := by
  unfold Cert.Router.gelu Cert.Router.normed Cert.Router.variance Cert.Router.mean
  pointwise [hidden, k0_pay3]
  rfl

/-- Whether a row is one of the first twelve, as the payloads test it. -/
theorem row_lt (r : Fin 16) {α : Type} (a b : α) :
    Scalar.select (IntOp.cmpi .slt (BitVec.ofNat 32 r.val) 12#32) a b = if r.val < 12 then a else b := by
  have h : ∀ r : Fin 16, IntOp.cmpi .slt (BitVec.ofNat 32 r.val) 12#32 = BitVec.ofBool (decide (r.val < 12)) := by decide
  rw [h r]
  by_cases q : r.val < 12 <;> simp [q, Scalar.select]

/-- Whether a row is the thirteenth. -/
theorem row_eq (r : Fin 16) {α : Type} (a b : α) :
    Scalar.select (IntOp.cmpi .eq (BitVec.ofNat 32 r.val) 12#32) a b = if r.val = 12 then a else b := by
  have h : ∀ r : Fin 16, IntOp.cmpi .eq (BitVec.ofNat 32 r.val) 12#32 = BitVec.ofBool (decide (r.val = 12)) := by decide
  rw [h r]
  by_cases q : r.val = 12 <;> simp [q, Scalar.select]

/-- A sum over sixteen rows whose last four are zero. -/
theorem sum_rows (f : Fin 16 → EReal) (g : Fin 12 → EReal) (h1 : ∀ e : Fin 12, f (e.castAdd 4) = g e) (h2 : ∀ r : Fin 16, 12 ≤ r.val → f r = 0) :
    ∑ r, f r = ∑ e, g e := by
  refine (Fin.sum_univ_add (a := 12) (b := 4) f).trans ?_
  rw [Finset.sum_congr rfl fun e _ => h1 e, Finset.sum_eq_zero fun i _ => h2 _ (Nat.le_add_right 12 i.val), add_zero]

/-- A greatest value over sixteen rows whose last four are minus infinity. -/
theorem max_rows (f : Fin 16 → EReal) (g : Fin 12 → EReal) (h1 : ∀ e : Fin 12, f (e.castAdd 4) = g e) (h2 : ∀ r : Fin 16, 12 ≤ r.val → f r = ⊥) :
    Finset.univ.fold max ⊥ f = Finset.univ.fold max ⊥ g := by
  show Finset.univ.sup f = Finset.univ.sup g
  apply le_antisymm
  · refine Finset.sup_le fun r _ => ?_
    by_cases hr : r.val < 12
    · exact (le_of_eq (h1 ⟨r.val, hr⟩)).trans (Finset.le_sup (f := g) (Finset.mem_univ _))
    · rw [h2 r (by omega)]; exact bot_le
  · exact Finset.sup_le fun e _ => (le_of_eq (h1 e).symm).trans (Finset.le_sup (f := f) (Finset.mem_univ _))

/-- The sixteen rows of probabilities, over twelve logits. -/
theorem probs_apply (x : FVec Ideal S256x4096 .f32) (w : FVec Ideal S16x256 .f32) (b : FVec Ideal S16x1 .f32) (n : Fin 4096)
    (L : Fin 12 → EReal) (hL : ∀ e : Fin 12, (∑ k : Fin 256, w (ix2 (e.castAdd 4 : Fin 16) k) * x (ix2 k n)) + b (ix2 (e.castAdd 4 : Fin 16) 0) = L e) (r : Fin 16) :
    (probs (F := Ideal) x w b (ix2 r n) : EReal)
      = Ideal.div (if h : r.val < 12 then Cert.Router.weight L ⟨r.val, h⟩ else 0) (∑ e, Cert.Router.weight L e) := by
  unfold Cert.Router.weight Cert.Router.top
  pointwise [probs, zeros, k0_pay4, k0_pay5]
  simp only [row_lt, Cert.Router.lit_bot]
  have hm : Finset.univ.fold max ⊥ (fun r : Fin 16 => if r.val < 12 then (∑ k : Fin 256, w (ix2 r k) * x (ix2 k n)) + b (ix2 r 0) else ⊥) = Finset.univ.fold max ⊥ L :=
    max_rows _ L (fun e => (if_pos e.isLt).trans (hL e)) fun r hr => if_neg (Nat.not_lt.2 hr)
  rw [hm]
  congr 1
  · by_cases hr : r.val < 12
    · rw [if_pos hr, dif_pos hr]
      exact congrArg (fun z => Ideal.exp (z - _)) (hL ⟨r.val, hr⟩)
    · rw [if_neg hr, dif_neg hr]
  · exact sum_rows _ _ (fun e => (if_pos e.isLt).trans (congrArg (fun z => Ideal.exp (z - _)) (hL e))) fun r hr => if_neg (Nat.not_lt.2 hr)

/-- The number of active experts over the sixteen rows. -/
theorem actives_sum (t : EReal) (x : FVec Ideal S256x4096 .f32) (w : FVec Ideal S16x256 .f32) (b : FVec Ideal S16x1 .f32) (u : Fin 1) (n : Fin 4096) :
    (actives (F := Ideal) t x w b (ix2 u n) : EReal)
      = min (Ideal.ofBits .f32 0x40800000#32) (max 1 (∑ r : Fin 16, if t < (probs (F := Ideal) x w b (ix2 r n) : EReal) then (1 : EReal) else 0)) := by
  pointwise [actives, k0_pay6]
  simp only [Cert.Router.sitofp_ofBool, decide_eq_true_eq]
  rfl

/-- Its word. -/
theorem activeWords_apply (t : EReal) (x : FVec Ideal S256x4096 .f32) (w : FVec Ideal S16x256 .f32) (b : FVec Ideal S16x1 .f32) (u : Fin 1) (n : Fin 4096) :
    activeWords (F := Ideal) t x w b (ix2 u n) = FloatOps.fptosi (F := Ideal) (φ := .f32) 32 (actives (F := Ideal) t x w b (ix2 u n)) := by
  pointwise [activeWords, k0_pay7, actives]

/-- Whether row `j` exceeds row `r`, as a word. -/
def above (p : Fin 16 → EReal) (r : Fin 16) (j : Fin 12) : BitVec 32 := BitVec.setWidth 32 (BitVec.ofBool (decide (p r < p (j.castAdd 4))))

/-- Whether row `j` equals row `r` and comes first, as a word. -/
def ties (p : Fin 16 → EReal) (r : Fin 16) (j : Fin 12) : BitVec 32 :=
  BitVec.setWidth 32 (IntOp.andi (BitVec.ofBool (decide (p (j.castAdd 4) = p r))) (IntOp.cmpi .sgt (BitVec.ofNat 32 r.val) (BitVec.ofNat 32 j.val)))

/-- The count over the first five rows and half of the sixth. -/
theorem countA_apply (x : FVec Ideal S256x4096 .f32) (w : FVec Ideal S16x256 .f32) (b : FVec Ideal S16x1 .f32) (r : Fin 16) (n : Fin 4096) (p : Fin 16 → EReal)
    (hp : (fun r => (probs (F := Ideal) x w b (ix2 r n) : EReal)) = p) :
    countA (F := Ideal) x w b (ix2 r n) = 0#32 + above p r 0 + ties p r 0 + above p r 1 + ties p r 1 + above p r 2 + ties p r 2 + above p r 3 + ties p r 3
      + above p r 4 + ties p r 4 + above p r 5 := by
  subst hp
  pointwise [countA, k0_pay11, k0_pay10, k0_pay9, k0_pay8, rows]
  rfl

/-- The count over the first ten rows. -/
theorem countB_apply (x : FVec Ideal S256x4096 .f32) (w : FVec Ideal S16x256 .f32) (b : FVec Ideal S16x1 .f32) (r : Fin 16) (n : Fin 4096) (p : Fin 16 → EReal)
    (hp : (fun r => (probs (F := Ideal) x w b (ix2 r n) : EReal)) = p) :
    countB (F := Ideal) x w b (ix2 r n) = countA (F := Ideal) x w b (ix2 r n) + ties p r 5 + above p r 6 + ties p r 6 + above p r 7 + ties p r 7
      + above p r 8 + ties p r 8 + above p r 9 + ties p r 9 := by
  subst hp
  pointwise [countB, k0_pay14, k0_pay13, k0_pay12, k0_pay10, rows]
  rfl

/-- Row `r`'s count: how many of the first twelve rows stand before it, as the payloads add it up. -/
def count (p : Fin 16 → EReal) (r : Fin 16) : BitVec 32 :=
  0#32 + above p r 0 + ties p r 0 + above p r 1 + ties p r 1 + above p r 2 + ties p r 2 + above p r 3 + ties p r 3
      + above p r 4 + ties p r 4 + above p r 5 + ties p r 5 + above p r 6 + ties p r 6 + above p r 7 + ties p r 7
      + above p r 8 + ties p r 8 + above p r 9 + ties p r 9 + above p r 10 + ties p r 10 + above p r 11 + ties p r 11

/-- The result at a row: the row's probability if its count is below the active number, over the sum of all such, plus the active
    number at the thirteenth row. -/
theorem outcome_apply (t : EReal) (x : FVec Ideal S256x4096 .f32) (w : FVec Ideal S16x256 .f32) (b : FVec Ideal S16x1 .f32) (r : Fin 16) (n : Fin 4096) (p : Fin 16 → EReal)
    (hp : (fun r => (probs (F := Ideal) x w b (ix2 r n) : EReal)) = p) :
    (outcome (F := Ideal) t x w b (ix2 r n) : EReal)
      = Ideal.div (Scalar.select (IntOp.cmpi .slt (count p r) (activeWords (F := Ideal) t x w b (ix2 0 n))) (p r) 0)
          ((∑ r' : Fin 16, Scalar.select (IntOp.cmpi .slt (count p r') (activeWords (F := Ideal) t x w b (ix2 0 n))) (p r') 0) + Ideal.ofBits .f32 0x322BCC77#32)
        + Scalar.select (IntOp.cmpi .eq (BitVec.ofNat 32 r.val) 12#32) (actives (F := Ideal) t x w b (ix2 0 n)) 0 := by
  pointwise [outcome, k0_pay2, rows, k0_pay15, k0_pay16]
  simp only [countB_apply x w b _ n p hp, countA_apply x w b _ n p hp]
  subst hp
  rfl

end Cert.KernelIdeal.Router
end
-- ==== Proof.Outcome.lean ====
/-
  The result rows over twelve logits: the counts are the experts' places, the first twelve rows the gates, the thirteenth
  the number of active experts.
-/
module

public import proofs.«01_k».proof.Proof.Epilogue

@[expose] public section

noncomputable section

namespace Cert.KernelIdeal.Router
open Idealize.ShloMosaic Cert.KernelIdeal Cert.KernelIdeal.Gen
open Cert.Router (weight prob threshold active word kept gate rank on Before)

/-- Row `j` stands before row `r`: it is greater, or equal and of the lower number. -/
def Ahead (p : Fin 16 → EReal) (r : Fin 16) (j : Fin 12) : Prop := p r < p (j.castAdd 4) ∨ p (j.castAdd 4) = p r ∧ j.val < r.val

/-- The two words added for a row are one if it stands before, else zero. -/
theorem pair_word (p : Fin 16 → EReal) (r : Fin 16) (j : Fin 12) [Decidable (Ahead p r j)] :
    above p r j + ties p r j = BitVec.ofNat 32 (if Ahead p r j then 1 else 0) := by
  have hs : ∀ (r : Fin 16) (j : Fin 12), IntOp.cmpi .sgt (BitVec.ofNat 32 r.val) (BitVec.ofNat 32 j.val) = BitVec.ofBool (decide (j.val < r.val)) := by decide
  unfold above ties
  rw [hs r j]
  by_cases h1 : p r < p (j.castAdd 4)
  · have h2 : ¬p (j.castAdd 4) = p r := fun h => absurd h1 (by rw [h]; exact lt_irrefl _)
    rw [if_pos (.inl h1)]
    simp only [h1, h2, decide_true, decide_false]
    by_cases h3 : j.val < r.val <;> simp only [h3, decide_true, decide_false] <;> decide
  · by_cases h2 : p (j.castAdd 4) = p r
    · have h2' : ¬p r < p r := lt_irrefl _
      by_cases h3 : j.val < r.val
      · rw [if_pos (.inr ⟨h2, h3⟩)]
        simp only [h2, h2', h3, decide_true, decide_false]
        decide
      · rw [if_neg (by rintro (h | h); exacts [h1 h, h3 h.2])]
        simp only [h2, h2', h3, decide_true, decide_false]
        decide
    · rw [if_neg (by rintro (h | h); exacts [h1 h, h2 h.1])]
      simp only [h1, h2, decide_false]
      by_cases h3 : j.val < r.val <;> simp only [h3, decide_true, decide_false] <;> decide

open Classical in
/-- A row's count is the word of how many of the first twelve rows stand before it. -/
theorem count_word (p : Fin 16 → EReal) (r : Fin 16) :
    count p r = BitVec.ofNat 32 (Finset.univ.filter fun j : Fin 12 => Ahead p r j).card := by
  rw [Finset.card_filter]
  simp only [Fin.sum_univ_castSucc, Fin.sum_univ_zero, BitVec.ofNat_add, ← pair_word, ← BitVec.add_assoc]
  rfl

/-- Of one of the first twelve rows, it is the word of its expert's place. -/
theorem count_rank (p : Fin 16 → EReal) (P : Fin 12 → EReal) (hp : ∀ e : Fin 12, p (e.castAdd 4) = P e) (e : Fin 12) :
    count p (e.castAdd 4) = BitVec.ofNat 32 (rank P e) := by
  classical
  rw [count_word]
  unfold rank
  refine congrArg (fun s : Finset (Fin 12) => BitVec.ofNat 32 s.card) (Finset.filter_congr fun j _ => ?_)
  unfold Ahead Before
  rw [hp, hp]
  rfl

/-- A softmax weight is not negative. -/
theorem weight_nonneg (L : Fin 12 → EReal) (e : Fin 12) : 0 ≤ weight L e := by
  unfold weight
  induction L e - Cert.Router.top L with
  | bot => exact le_refl _
  | top => exact le_top
  | coe r => exact EReal.coe_nonneg.mpr (Real.exp_pos r).le

/-- Zero over anything is at most zero. -/
theorem zero_div_le (s : EReal) : Ideal.div 0 s ≤ 0 := by
  unfold Ideal.div
  split
  · rw [if_neg (lt_irrefl _)]; exact bot_le
  · rw [zero_mul]

/-- The sixteen rows of probabilities over the logits `L`. -/
def rowProb (L : Fin 12 → EReal) (r : Fin 16) : EReal := Ideal.div (if h : r.val < 12 then weight L ⟨r.val, h⟩ else 0) (∑ e, weight L e)

/-- The first twelve are the softmax. -/
theorem rowProb_expert (L : Fin 12 → EReal) (e : Fin 12) : rowProb L (e.castAdd 4) = prob L e := by
  unfold rowProb prob
  rw [dif_pos (show (e.castAdd 4).val < 12 from e.isLt)]
  rfl

/-- The last four are at most zero. -/
theorem rowProb_rest (L : Fin 12 → EReal) (r : Fin 16) (hr : 12 ≤ r.val) : rowProb L r ≤ 0 := by
  unfold rowProb
  rw [dif_neg (by omega)]
  exact zero_div_le _

/-- The threshold is positive. -/
theorem threshold_pos (t : EReal) : 0 < threshold t := lt_of_lt_of_le Cert.Router.lit_twelfth_pos (le_max_right _ _)

/-- So the sixteen rows have as many above the threshold as the twelve experts. -/
theorem active_rows (t : EReal) (L : Fin 12 → EReal) :
    min (Ideal.ofBits .f32 0x40800000#32) (max 1 (∑ r : Fin 16, if threshold t < rowProb L r then (1 : EReal) else 0)) = active (threshold t) (prob L) := by
  unfold active
  rw [sum_rows _ (fun e => if threshold t < prob L e then (1 : EReal) else 0) (fun e => by rw [rowProb_expert]) fun r hr =>
    if_neg (not_lt.2 ((rowProb_rest L r hr).trans (threshold_pos t).le))]

/-- When the weights sum to zero every row is zero over zero. -/
theorem rowProb_junk (L : Fin 12 → EReal) (h : ∑ e, weight L e = 0) (r : Fin 16) : rowProb L r = ⊥ := by
  have hz : ∀ e, weight L e = 0 := fun e => (Finset.sum_eq_zero_iff_of_nonneg fun e _ => weight_nonneg L e).1 h e (Finset.mem_univ e)
  have hw : (if h : r.val < 12 then weight L ⟨r.val, h⟩ else 0) = 0 := by
    split
    · exact hz _
    · rfl
  unfold rowProb
  rw [hw, h]
  unfold Ideal.div
  rw [if_pos rfl, if_neg (lt_irrefl _)]

/-- When they do not, the last four rows are zero. -/
theorem rowProb_zero (L : Fin 12 → EReal) (h : ∑ e, weight L e ≠ 0) (r : Fin 16) (hr : 12 ≤ r.val) : rowProb L r = 0 := by
  unfold rowProb
  rw [dif_neg (by omega)]
  unfold Ideal.div
  rw [if_neg h, zero_mul]

/-- A comparison of a word with the active number, as a test of the place. -/
theorem select_on (k : BitVec 32) (c : ℕ) (a : EReal) :
    Scalar.select (IntOp.cmpi .slt (BitVec.ofNat 32 c) k) a 0 = if on k c = true then a else 0 := by
  show Scalar.select (BitVec.ofBool (on k c)) a 0 = _
  cases on k c <;> rfl

/-- What a row keeps: its expert's kept probability, and nothing in the last four rows. -/
theorem kept_row (θ : EReal) (L : Fin 12 → EReal) (r : Fin 16) :
    Scalar.select (IntOp.cmpi .slt (count (rowProb L) r) (word θ (prob L))) (rowProb L r) 0
      = if h : r.val < 12 then kept (word θ (prob L)) (prob L) ⟨r.val, h⟩ else 0 := by
  classical
  by_cases hr : r.val < 12
  · rw [dif_pos hr]
    have hc := count_rank (rowProb L) (prob L) (rowProb_expert L) ⟨r.val, hr⟩
    have hq := rowProb_expert L ⟨r.val, hr⟩
    rw [show (Fin.castAdd 4 ⟨r.val, hr⟩ : Fin 16) = r from rfl] at hc hq
    rw [hc, hq, select_on]
    rfl
  · rw [dif_neg hr, count_word, select_on]
    by_cases hs : ∑ e, weight L e = 0
    · have hall : (Finset.univ.filter fun j : Fin 12 => Ahead (rowProb L) r j) = Finset.univ :=
        Finset.filter_true_of_mem fun j _ => .inr ⟨by rw [rowProb_junk L hs, rowProb_junk L hs], by omega⟩
      rw [hall, if_neg]
      intro h
      have h4 := Cert.Router.on_lt_four θ (prob L) _ (by simp) h
      simp at h4
    · rw [rowProb_zero L hs r (by omega), ite_self]

/-- The sum of what the rows keep is the sum of what the experts keep. -/
theorem kept_sum (θ : EReal) (L : Fin 12 → EReal) :
    ∑ r : Fin 16, Scalar.select (IntOp.cmpi .slt (count (rowProb L) r) (word θ (prob L))) (rowProb L r) 0 = ∑ e, kept (word θ (prob L)) (prob L) e :=
  sum_rows _ _ (fun e => (kept_row θ L _).trans (dif_pos e.isLt)) fun r hr => (kept_row θ L r).trans (dif_neg (Nat.not_lt.2 hr))

/-- The denominator of the gates is never zero. -/
theorem denominator_ne (θ : EReal) (L : Fin 12 → EReal) :
    (∑ e, kept (word θ (prob L)) (prob L) e) + Ideal.ofBits .f32 0x322BCC77#32 ≠ 0 := by
  obtain ⟨ε, hε, he⟩ := Cert.Router.lit_small
  rw [he]
  by_cases hs : ∑ e, weight L e = 0
  · have hP : ∀ e, prob L e = ⊥ := fun e => (rowProb_expert L e).symm.trans (rowProb_junk L hs _)
    have hK : (∑ e, kept (word θ (prob L)) (prob L) e) = 0 ∨ (∑ e, kept (word θ (prob L)) (prob L) e) = ⊥ := by
      refine Finset.sum_induction _ (fun y => y = 0 ∨ y = ⊥) ?_ (.inl rfl) fun e _ => ?_
      · rintro a b (rfl | rfl) (rfl | rfl)
        · exact .inl (zero_add 0)
        · exact .inr (zero_add ⊥)
        · exact .inr (add_zero ⊥)
        · exact .inr (EReal.bot_add ⊥)
      · unfold kept
        rw [hP]
        split
        · exact .inr rfl
        · exact .inl rfl
    rcases hK with h | h
    · rw [h, zero_add]
      exact fun q => hε.ne' (by exact_mod_cast q)
    · rw [h, EReal.bot_add]
      exact EReal.bot_ne_zero
  · have hP : ∀ e, 0 ≤ prob L e := fun e => by
      unfold prob Ideal.div
      rw [if_neg hs]
      exact mul_nonneg (weight_nonneg L e) (EReal.inv_nonneg_of_nonneg (Finset.sum_nonneg fun e _ => weight_nonneg L e))
    have hK : 0 ≤ ∑ e, kept (word θ (prob L)) (prob L) e := Finset.sum_nonneg fun e _ => by
      unfold kept
      split
      · exact hP e
      · exact le_refl _
    have hpos : (0 : EReal) < (ε : EReal) := by exact_mod_cast hε
    exact (lt_of_lt_of_le hpos (le_add_of_nonneg_left hK)).ne'

/-- The word of the active number, over the logits. -/
theorem words_over (t : EReal) (x : FVec Ideal S256x4096 .f32) (w : FVec Ideal S16x256 .f32) (b : FVec Ideal S16x1 .f32) (n : Fin 4096)
    (L : Fin 12 → EReal) (hL : ∀ e : Fin 12, (∑ k : Fin 256, w (ix2 (e.castAdd 4 : Fin 16) k) * x (ix2 k n)) + b (ix2 (e.castAdd 4 : Fin 16) 0) = L e) :
    (actives (F := Ideal) (threshold t) x w b (ix2 0 n) : EReal) = active (threshold t) (prob L)
      ∧ activeWords (F := Ideal) (threshold t) x w b (ix2 0 n) = word (threshold t) (prob L) := by
  have ha : (actives (F := Ideal) (threshold t) x w b (ix2 0 n) : EReal) = active (threshold t) (prob L) := by
    rw [actives_sum, ← active_rows]
    simp only [probs_apply x w b n L hL]
    rfl
  exact ⟨ha, (activeWords_apply _ x w b 0 n).trans (congrArg _ ha)⟩

/-- The result at a row, over the logits: an expert's gate, or the number of active experts. -/
theorem outcome_over (t : EReal) (x : FVec Ideal S256x4096 .f32) (w : FVec Ideal S16x256 .f32) (b : FVec Ideal S16x1 .f32) (n : Fin 4096)
    (L : Fin 12 → EReal) (hL : ∀ e : Fin 12, (∑ k : Fin 256, w (ix2 (e.castAdd 4 : Fin 16) k) * x (ix2 k n)) + b (ix2 (e.castAdd 4 : Fin 16) 0) = L e) :
    (∀ e : Fin 12, (outcome (F := Ideal) (threshold t) x w b (ix2 (e.castAdd 4 : Fin 16) n) : EReal) = gate (word (threshold t) (prob L)) (prob L) e)
      ∧ (outcome (F := Ideal) (threshold t) x w b (ix2 12 n) : EReal) = active (threshold t) (prob L) := by
  obtain ⟨ha, hw⟩ := words_over t x w b n L hL
  have hp : (fun r => (probs (F := Ideal) x w b (ix2 r n) : EReal)) = rowProb L := funext fun r => probs_apply x w b n L hL r
  constructor
  · intro e
    rw [outcome_apply _ x w b _ n _ hp, hw, kept_sum, kept_row, row_eq, dif_pos (show (e.castAdd 4 : Fin 16).val < 12 from e.isLt),
      if_neg (show (e.castAdd 4 : Fin 16).val ≠ 12 from by have := e.isLt; show e.val ≠ 12; omega), add_zero]
    rfl
  · rw [outcome_apply _ x w b _ n _ hp, hw, kept_sum, kept_row, row_eq, dif_neg (show ¬(12 : Fin 16).val < 12 from by decide), if_pos (show (12 : Fin 16).val = 12 from rfl), ha]
    have h0 : Ideal.div 0 ((∑ e, kept (word (threshold t) (prob L)) (prob L) e) + Ideal.ofBits .f32 0x322BCC77#32) = 0 := by
      unfold Ideal.div
      rw [if_neg (denominator_ne _ L), zero_mul]
    rw [h0, zero_add]

end Cert.KernelIdeal.Router
end
-- ==== Proof.RefHidden.lean ====
/-
  The reference's first half at an index: the pooled features, the first layer, its normalisation and activation.
-/
module

public import proofs.«01_k».proof.Proof.Spec
public import proofs.«01_k».proof.Proof.Gen.ReferenceIdeal.Read

@[expose] public section

set_option maxRecDepth 16384
noncomputable section

namespace Cert.ReferenceIdeal.Router
open Idealize.ShloMosaic Cert.ReferenceIdeal Cert.ReferenceIdeal.Read

/-- An array of rank six summed over its fourth and sixth axes. -/
theorem sum_cells (v : FVec Ideal S4096x96x4x4x4x4 .f32) (z : EReal) (n : Fin 4096) (c : Fin 96) (a b : Fin 4) :
    Ideal.hostReduceAdd Gen.reducesTo_S4096x96x4x4x4x4_S4096x96x4x4_d3_5 v z (ix4 n c a b)
      = z + ∑ i : Fin 4, ∑ l : Fin 4, (v (ix6 n c a i b l) : EReal) := by
  unfold Ideal.hostReduceAdd
  congr 1
  refine (Finset.sum_filter_eq_sum_of_fiber _ (fun k : Fin 4 × Fin 4 => (ix6 n c a k.1 b k.2 : S4096x96x4x4x4x4.Idx))
    (fun _ _ e => Prod.ext (congrFun e 3) (congrFun e 5)) (fun i => ⟨fun e => ⟨(i 3, i 5), ?_⟩, ?_⟩) v).trans ?_
  · funext d; apply Fin.ext
    match d with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => exact (congrArg Fin.val (congrFun e 3)).symm
    | ⟨5, _⟩ => rfl
  · rintro ⟨k, rfl⟩
    funext d; apply Fin.ext
    match d with
    | ⟨0, _⟩ => rfl
    | ⟨1, _⟩ => rfl
    | ⟨2, _⟩ => rfl
    | ⟨3, _⟩ => rfl
  · simp only [Fintype.sum_prod_type]

/-- The rank-six view of the feature maps. -/
theorem split_apply (x0 : FVec Ideal S4096x96x16x16 .f32) (n : Fin 4096) (c : Fin 96) (a i b l : Fin 4) :
    (shapeCast S4096x96x4x4x4x4 x0 Gen.shapeCasts_S4096x96x16x16_S4096x96x4x4x4x4 (ix6 n c a i b l) : EReal)
      = x0 (ix4 n c ⟨4 * a.val + i.val, by omega⟩ ⟨4 * b.val + l.val, by omega⟩) := by
  simp only [mul_comm 4]
  pointwise []

/-- The reference's pooled array holds the features. -/
theorem pooled_apply (x0 : FVec Ideal S4096x96x16x16 .f32) (n : Fin 4096) (f : Fin 1536) :
    (val_main_v4 (F := Ideal) x0 (ix2 n f) : EReal) = Cert.Router.feature (fun c p q => x0 (ix4 n c p q)) f := by
  unfold Cert.Router.feature
  pointwise [val_main_v4, val_main_v3, val_main_v2, val_main_cst_0, val_main_v1, val_main_v0, val_main_cst]
  rw [sum_cells, zero_add]
  simp only [split_apply]

variable (x0 : FVec Ideal S4096x96x16x16 .f32) (x1 : FVec Ideal S256x1536 .f32) (x2 x3 x4 : FVec Ideal S256 .f32)

/-- A token's first layer, of the arguments. -/
def refLayer (n : Fin 4096) : Fin 256 → EReal :=
  Cert.Router.layer (fun c p q => x0 (ix4 n c p q)) (fun h f => x1 (ix2 h f)) (fun h => x2 (ix1 h))

/-- The reference's first layer. -/
theorem layer_apply (n : Fin 4096) (h : Fin 256) :
    (val_main_v9 (F := Ideal) x0 x1 x2 (ix2 n h) : EReal) = refLayer x0 x1 x2 n h := by
  unfold refLayer Cert.Router.layer
  pointwise [val_main_v9, val_main_v8, val_main_v7, val_main_v6, val_main_v5]
  simp only [pooled_apply, mul_comm]

/-- The reference's normalised layer. -/
theorem normed_apply (n : Fin 4096) (h : Fin 256) :
    (val_main_v33 (F := Ideal) x0 x1 x2 x3 x4 (ix2 n h) : EReal)
      = Cert.Router.normed (refLayer x0 x1 x2 n) (fun h => x3 (ix1 h)) (fun h => x4 (ix1 h)) h := by
  unfold Cert.Router.normed Cert.Router.variance Cert.Router.mean
  pointwise [val_main_v33, val_main_v32, val_main_v31, val_main_v30, val_main_v29, val_main_v28, val_main_v27, val_main_v26, val_main_v25, val_main_v24, val_main_v23, val_main_cst_5, val_main_v22, val_main_v21, val_main_v20, val_main_v19, val_main_v18, val_main_v17, val_main_v16, val_main_v15, val_main_v14, val_main_v13, val_main_v12, val_main_v11, val_main_v10, val_main_cst_1, val_main_cst_2, val_main_cst_3, val_main_cst_4]
  simp only [layer_apply]

/-- The reference's activated layer; its `erfc` of the negative is one plus `erf`. -/
theorem gelu_apply (n : Fin 4096) (h : Fin 256) :
    (val_main_v40 (F := Ideal) x0 x1 x2 x3 x4 (ix2 n h) : EReal)
      = Cert.Router.gelu (Cert.Router.normed (refLayer x0 x1 x2 n) (fun h => x3 (ix1 h)) (fun h => x4 (ix1 h)) h) := by
  rw [← normed_apply x0 x1 x2 x3 x4 n h]
  unfold Cert.Router.gelu
  pointwise [val_main_v40, val_main_v39, val_main_v38, val_main_v37, val_main_v36, val_main_v35, val_main_v34, val_main_cst_6, val_main_cst_7]
  rw [EReal.neg_mul, Ideal.erfc_neg]

end Cert.ReferenceIdeal.Router
end
-- ==== Proof.RefTail.lean ====
/-
  The reference's middle at an index: the logits, their softmax, the threshold and the number of active experts.
-/
module

public import proofs.«01_k».proof.Proof.RefHidden
public import proofs.«01_k».proof.Proof.Words
public import Idealize.ShloMosaic.Lib.Routing.OpsSet

@[expose] public section

set_option maxRecDepth 16384
noncomputable section

namespace Cert.ReferenceIdeal.Router
open Idealize.ShloMosaic Cert.ReferenceIdeal Cert.ReferenceIdeal.Read

variable (x0 : FVec Ideal S4096x96x16x16 .f32) (x1 : FVec Ideal S256x1536 .f32) (x2 x3 x4 : FVec Ideal S256 .f32) (x5 : FVec Ideal S12x256 .f32) (x6 : FVec Ideal S12 .f32) (x7 : FVec Ideal S_ .f32)

/-- A token's twelve logits, of the arguments. -/
def refLogits (n : Fin 4096) : Fin 12 → EReal :=
  Cert.Router.logit (refLayer x0 x1 x2 n) (fun h => x3 (ix1 h)) (fun h => x4 (ix1 h)) (fun e h => x5 (ix2 e h)) (fun e => x6 (ix1 e))

/-- The reference's logits. -/
theorem logit_apply (n : Fin 4096) (e : Fin 12) :
    (val_main_v45 (F := Ideal) x0 x1 x2 x3 x4 x5 x6 (ix2 n e) : EReal) = refLogits x0 x1 x2 x3 x4 x5 x6 n e := by
  unfold refLogits Cert.Router.logit
  pointwise [val_main_v45, val_main_v44, val_main_v43, val_main_v42, val_main_v41]
  simp only [gelu_apply, mul_comm]

/-- The reference's softmax. -/
theorem prob_apply (n : Fin 4096) (e : Fin 12) :
    (val_main_v56 (F := Ideal) x0 x1 x2 x3 x4 x5 x6 (ix2 n e) : EReal) = Cert.Router.prob (refLogits x0 x1 x2 x3 x4 x5 x6 n) e := by
  unfold Cert.Router.prob Cert.Router.weight Cert.Router.top
  pointwise [val_main_v56, val_main_v55, val_main_v54, val_main_v53, val_main_v52, val_main_v51, val_main_v50, val_main_v49, val_main_v48, val_main_v47, val_main_v46, val_main_cst_8, val_main_cst_9, val_main_cst_10]
  simp only [logit_apply, Cert.Router.lit_bot, bot_le, max_eq_right]

/-- The reference's threshold. -/
theorem threshold_apply : (val_main_v61 (F := Ideal) x7 ix0 : EReal) = Cert.Router.threshold (x7 ix0) := by
  unfold Cert.Router.threshold
  pointwise [val_main_v61, val_main_v60, val_main_v59, val_main_v58, val_main_v57, val_main_cst_11, val_main_cst_12, val_main_cst_13]

/-- The reference's number of active experts. -/
theorem active_apply (n : Fin 4096) :
    (val_main_v66 (F := Ideal) x0 x1 x2 x3 x4 x5 x6 x7 (ix1 n) : EReal)
      = Cert.Router.active (Cert.Router.threshold (x7 ix0)) (Cert.Router.prob (refLogits x0 x1 x2 x3 x4 x5 x6 n)) := by
  unfold Cert.Router.active
  pointwise [val_main_v66, val_main_v65, val_main_v64, val_main_v63, val_main_v62, val_main_cst_14, val_main_c, val_main_c_15, val_main_call0_v0, val_main_call0_v1,  val_main_call0_v2,  val_main_call0_v3,  val_main_call0_v4]
  simp only [prob_apply, threshold_apply]
  simp only [Cert.Router.uitofp_ofBool, Cert.Router.sitofp_one, Cert.Router.sitofp_four, decide_eq_true_eq]

/-- The word of the reference's number of active experts. -/
def refWord (n : Fin 4096) : BitVec 32 := Cert.Router.word (Cert.Router.threshold (x7 ix0)) (Cert.Router.prob (refLogits x0 x1 x2 x3 x4 x5 x6 n))

/-- The kept values: a place's probability, if the place is among the first active ones. -/
theorem masked_apply (n : Fin 4096) (r : Fin 4) :
    (val_main_v75 (F := Ideal) x0 x1 x2 x3 x4 x5 x6 x7 (ix2 n r) : EReal)
      = if Cert.Router.on (refWord x0 x1 x2 x3 x4 x5 x6 x7 n) r.val = true then val_main_values (F := Ideal) x0 x1 x2 x3 x4 x5 x6 (ix2 n r) else 0 := by
  pointwise [val_main_v75, val_main_v74, val_main_v73, val_main_v72, val_main_v71, val_main_v70, val_main_v69, val_main_v68, val_main_v67]
  rw [active_apply]
  refine (congrArg (_ * ·) (Cert.Router.uitofp_ofBool (Cert.Router.on (refWord x0 x1 x2 x3 x4 x5 x6 x7 n) r.val))).trans ?_
  split_ifs
  · rw [mul_one]
  · rw [mul_zero]

/-- The scatter's first index word is the token. -/
theorem token_word (n : Fin 4096) (r : Fin 4) : val_main_v92 (F := Ideal) x0 x1 x2 x3 x4 x5 x6 (ix3 n r 0) = BitVec.ofNat 32 n.val := by
  pointwise [val_main_v92, val_main_v91, val_main_v90, val_main_v89, val_main_v88, val_main_v87, val_main_v86, val_main_c_20, val_main_v85, val_main_v84, val_main_c_19, val_main_v83, val_main_v82, val_main_v81, val_main_c_18, val_main_v80, val_main_v79, val_main_c_17, val_main_v78, val_main_v77]
  exact Routing.wrap_of_lt _ _ (by rw [BitVec.toNat_ofNat]; omega)

/-- The scatter's second index word is the expert at that place. -/
theorem expert_word (n : Fin 4096) (r : Fin 4) (e : Fin 12) (h : val_main_indices (F := Ideal) x0 x1 x2 x3 x4 x5 x6 (ix2 n r) = BitVec.ofNat 32 e.val) :
    val_main_v92 (F := Ideal) x0 x1 x2 x3 x4 x5 x6 (ix3 n r 1) = BitVec.ofNat 32 e.val := by
  pointwise [val_main_v92, val_main_v91, val_main_v90, val_main_v89, val_main_v88, val_main_v87, val_main_v86, val_main_c_20, val_main_v85, val_main_v84, val_main_c_19, val_main_v83, val_main_v82, val_main_v81, val_main_c_18, val_main_v80, val_main_v79, val_main_c_17, val_main_v78, val_main_v77]
  rw [h]
  exact Routing.wrap_of_lt _ _ (by rw [BitVec.toNat_ofNat]; omega)

end Cert.ReferenceIdeal.Router
end
-- ==== Proof.RefGate.lean ====
/-
  The reference's end at an index: its four best experts, the scatter of the kept probabilities, the gate.
-/
module

public import proofs.«01_k».proof.Proof.RefTail
public import Idealize.ShloMosaic.Lib.Routing.OpsSet

@[expose] public section

set_option maxRecDepth 16384
noncomputable section

namespace Cert.ReferenceIdeal.Router
open Idealize.ShloMosaic Cert.ReferenceIdeal Cert.ReferenceIdeal.Read

/-- Place `r` of a row's four best: some expert whose place in the row's order is `r`, with its number. -/
theorem best_apply (x : FVec Ideal S4096x12 .f32) (h : S4096x12.Slices (fun _ => 0) S4096x4) (n : Fin 4096) (r : Fin 4) :
    ∃ e : Fin 12, Cert.Router.rank (fun e => (x (ix2 n e) : EReal)) e = r.val
      ∧ (Host.topK S4096x4 1 (FloatOps.cmpfTotal (F := Ideal) .gt) x h).1 (ix2 n r) = x (ix2 n e)
      ∧ (Host.topK S4096x4 1 (FloatOps.cmpfTotal (F := Ideal) .gt) x h).2 (ix2 n r) = BitVec.ofNat 32 e.val := by
  have hR : ∀ a b : Fin 12, (fun k k' => FloatOps.cmpfTotal (F := Ideal) .gt (x (ix2 n k)) (x (ix2 n k')) == 1#1) a b = true
      ↔ (x (ix2 n b) : EReal) < x (ix2 n a) := by
    intro a b
    show (BitVec.ofBool (decide ((x (ix2 n b) : EReal) < x (ix2 n a))) == 1#1) = true ↔ _
    by_cases hlt : (x (ix2 n b) : EReal) < x (ix2 n a) <;> simp [hlt]
  have ha : ∀ k : Fin 12, ((ix2 n (⟨r.val, by omega⟩ : Fin 12) : S4096x12.Idx)).along (1 : Fin 2) k = ix2 n k := by
    intro k
    funext a
    match a with
    | ⟨0, _⟩ => rfl
    | ⟨1, _⟩ => rfl
  refine ⟨sortedFrom (fun k k' => FloatOps.cmpfTotal (F := Ideal) .gt (x (ix2 n k)) (x (ix2 n k')) == 1#1) ⟨r.val, by omega⟩,
    Cert.Router.rank_place _ _ hR _, ?_, ?_⟩
  · unfold Host.topK Host.sort2
    simp only [dif_pos (show 1 < S4096x12.rank by decide)]
    pointwise []
    simp only [ha]
  · unfold Host.topK Host.sort2
    simp only [dif_pos (show 1 < S4096x12.rank by decide)]
    pointwise []
    simp only [ha]
    rfl

variable (x0 : FVec Ideal S4096x96x16x16 .f32) (x1 : FVec Ideal S256x1536 .f32) (x2 x3 x4 : FVec Ideal S256 .f32) (x5 : FVec Ideal S12x256 .f32) (x6 : FVec Ideal S12 .f32) (x7 : FVec Ideal S_ .f32)

/-- A token's twelve probabilities, of the arguments. -/
def refProbs (n : Fin 4096) : Fin 12 → EReal := Cert.Router.prob (refLogits x0 x1 x2 x3 x4 x5 x6 n)

/-- A place's expert, its probability and its number, in the reference's arrays. -/
theorem place_apply (n : Fin 4096) (r : Fin 4) :
    ∃ e : Fin 12, Cert.Router.rank (refProbs x0 x1 x2 x3 x4 x5 x6 n) e = r.val
      ∧ (val_main_values (F := Ideal) x0 x1 x2 x3 x4 x5 x6 (ix2 n r) : EReal) = refProbs x0 x1 x2 x3 x4 x5 x6 n e
      ∧ val_main_indices (F := Ideal) x0 x1 x2 x3 x4 x5 x6 (ix2 n r) = BitVec.ofNat 32 e.val := by
  obtain ⟨e, h1, h2, h3⟩ := best_apply (val_main_v56 (F := Ideal) x0 x1 x2 x3 x4 x5 x6) Gen.sliceFits_S4096x12_S4096x4 n r
  have hp : (fun e => (val_main_v56 (F := Ideal) x0 x1 x2 x3 x4 x5 x6 (ix2 n e) : EReal)) = refProbs x0 x1 x2 x3 x4 x5 x6 n :=
    funext fun e => prob_apply x0 x1 x2 x3 x4 x5 x6 n e
  rw [hp] at h1
  exact ⟨e, h1, h2.trans (congrFun hp e), h3⟩

/-- An update lands at token `n`, expert `e`, exactly when it is the token's and its expert is `e`. -/
theorem lands_iff (a : Fin 4096) (b : Fin 4) (n : Fin 4096) (e d : Fin 12)
    (hd : val_main_indices (F := Ideal) x0 x1 x2 x3 x4 x5 x6 (ix2 a b) = BitVec.ofNat 32 d.val) :
    scatter_S4096x12_S4096x4x2_S4096x4_n_01_01_2.resultIdx? (ix2 a b : S4096x4.Idx) (val_main_v92 (F := Ideal) x0 x1 x2 x3 x4 x5 x6)
      = some (ix2 n e : S4096x12.Idx) ↔ a = n ∧ d = e := by
  refine (Routing.scatter_lands2 scatter_S4096x12_S4096x4x2_S4096x4_n_01_01_2 rfl rfl rfl (val_main_v92 (F := Ideal) x0 x1 x2 x3 x4 x5 x6) a b n e).trans ?_
  have h0 := token_word x0 x1 x2 x3 x4 x5 x6 a b
  have h1 := expert_word x0 x1 x2 x3 x4 x5 x6 a b d hd
  constructor
  · rintro ⟨q0, q1⟩
    replace q0 := (congrArg BitVec.toInt h0).symm.trans q0
    replace q1 := (congrArg BitVec.toInt h1).symm.trans q1
    rw [Cert.Router.toInt_small _ (by omega)] at q0 q1
    exact ⟨Fin.ext (by omega), Fin.ext (by omega)⟩
  · rintro ⟨rfl, rfl⟩
    exact ⟨(congrArg BitVec.toInt h0).trans (Cert.Router.toInt_small _ (by omega)), (congrArg BitVec.toInt h1).trans (Cert.Router.toInt_small _ (by omega))⟩

/-- What an update landing at token `n`, expert `e`, is: the token's, at the expert's place, with the expert's probability. -/
theorem lands (k : S4096x4.Idx) (n : Fin 4096) (e : Fin 12)
    (hk : scatter_S4096x12_S4096x4x2_S4096x4_n_01_01_2.resultIdx? k (val_main_v92 (F := Ideal) x0 x1 x2 x3 x4 x5 x6) = some (ix2 n e : S4096x12.Idx)) :
    ∃ b : Fin 4, k = ix2 n b ∧ Cert.Router.rank (refProbs x0 x1 x2 x3 x4 x5 x6 n) e = b.val
      ∧ (val_main_values (F := Ideal) x0 x1 x2 x3 x4 x5 x6 (ix2 n b) : EReal) = refProbs x0 x1 x2 x3 x4 x5 x6 n e := by
  obtain ⟨a, b, rfl⟩ : ∃ (a : Fin 4096) (b : Fin 4), k = ix2 a b := ⟨k 0, k 1, funext fun d => match d with | ⟨0, _⟩ => rfl | ⟨1, _⟩ => rfl⟩
  obtain ⟨d, r1, r2, r3⟩ := place_apply x0 x1 x2 x3 x4 x5 x6 a b
  obtain ⟨rfl, rfl⟩ := (lands_iff x0 x1 x2 x3 x4 x5 x6 a b n e d r3).1 hk
  exact ⟨b, rfl, r1, r2⟩

/-- An expert among the first four places has an update landing. -/
theorem lands_at (n : Fin 4096) (e : Fin 12) (b : Fin 4) (hb : Cert.Router.rank (refProbs x0 x1 x2 x3 x4 x5 x6 n) e = b.val) :
    scatter_S4096x12_S4096x4x2_S4096x4_n_01_01_2.resultIdx? (ix2 n b : S4096x4.Idx) (val_main_v92 (F := Ideal) x0 x1 x2 x3 x4 x5 x6)
      = some (ix2 n e : S4096x12.Idx) := by
  obtain ⟨d, r1, r2, r3⟩ := place_apply x0 x1 x2 x3 x4 x5 x6 n b
  exact (lands_iff x0 x1 x2 x3 x4 x5 x6 n b n e d r3).2 ⟨rfl, Cert.Router.rank_injective _ _ _ (r1.trans hb.symm) (by rw [r1]; omega)⟩

/-- The array the scatter starts from is zero. -/
theorem start_apply (i : S4096x12.Idx) : (val_main_v76 (F := Ideal) i : EReal) = 0 := by
  pointwise [val_main_v76, val_main_cst_16]

/-- The scattered array: every expert's kept probability. -/
theorem kept_apply (n : Fin 4096) (e : Fin 12) :
    (val_main_v93 (F := Ideal) x0 x1 x2 x3 x4 x5 x6 x7 (ix2 n e) : EReal)
      = Cert.Router.kept (refWord x0 x1 x2 x3 x4 x5 x6 x7 n) (refProbs x0 x1 x2 x3 x4 x5 x6 n) e := by
  have hrank := Cert.Router.rank_lt (refProbs x0 x1 x2 x3 x4 x5 x6 n) e
  unfold val_main_v93
  by_cases h4 : Cert.Router.rank (refProbs x0 x1 x2 x3 x4 x5 x6 n) e < 4
  · refine Routing.scatter_set_hit _ _ _ _ _ _ (fun k hk => ?_) (ix2 n ⟨_, h4⟩) (lands_at x0 x1 x2 x3 x4 x5 x6 n e ⟨_, h4⟩ rfl)
    obtain ⟨b, rfl, r1, r2⟩ := lands x0 x1 x2 x3 x4 x5 x6 k n e hk
    unfold Cert.Router.kept
    rw [r1, ← r2]
    exact masked_apply x0 x1 x2 x3 x4 x5 x6 x7 n b
  · refine (Routing.scatter_set_miss _ _ _ _ _ fun k hk => ?_).trans ?_
    · obtain ⟨b, rfl, r1, r2⟩ := lands x0 x1 x2 x3 x4 x5 x6 k n e hk
      exact h4 (by rw [r1]; exact b.isLt)
    · unfold Cert.Router.kept refWord
      rw [if_neg fun h => h4 (Cert.Router.on_lt_four _ _ _ (by omega) h)]
      exact start_apply _

/-- The reference's gates. -/
theorem gate_apply (n : Fin 4096) (e : Fin 12) :
    (val_main_v99 (F := Ideal) x0 x1 x2 x3 x4 x5 x6 x7 (ix2 n e) : EReal)
      = Cert.Router.gate (refWord x0 x1 x2 x3 x4 x5 x6 x7 n) (refProbs x0 x1 x2 x3 x4 x5 x6 n) e := by
  unfold Cert.Router.gate
  pointwise [val_main_v99, val_main_v98, val_main_v97, val_main_v96, val_main_cst_22, val_main_v95, val_main_v94, val_main_cst_21]
  simp only [kept_apply]

end Cert.ReferenceIdeal.Router
end
-- ==== Proof.Equation.lean ====
/-
  The equation: what the kernel's result holds is what the reference's results hold, at every token and expert.
-/
module

public import proofs.«01_k».proof.Proof.Features
public import proofs.«01_k».proof.Proof.Padded
public import proofs.«01_k».proof.Proof.Outcome
public import proofs.«01_k».proof.Proof.RefGate

@[expose] public section

set_option maxRecDepth 16384
noncomputable section

namespace Cert.KernelIdeal.Router
open Idealize.ShloMosaic Idealize.ShloMosaic.TcCoe Idealize.SL.Sem
open Cert.KernelIdeal Cert.KernelIdeal.Gen

variable (m : (ℓ : Loc nD τ sig) → Buf (Elt Ideal) ℓ) (c : Dev nD)

/-- The logits of token `n`, of the kernel's arguments, as the reference computes them. -/
def logits (n : Fin 4096) : Fin 12 → EReal :=
  Cert.ReferenceIdeal.Router.refLogits (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) n

/-- The threshold over the kernel's last argument. -/
def bound : EReal := Cert.Router.threshold ((m ((c : Thread nD τ).loc main_arg7) : FVec Ideal S_ .f32) ix0)

/-- The kernel's hidden layer of a token. -/
theorem layer_kernel (n : Fin 4096) (h : Fin 256) :
    (accum m c 23 last.isLt (ix2 h n) : EReal) + (iblk m c 3 last : FVec Ideal S256x1 .f32) (ix2 h 0)
      = Cert.ReferenceIdeal.Router.refLayer (m ((c : Thread nD τ).loc main_arg0)) (m ((c : Thread nD τ).loc main_arg1)) (m ((c : Thread nD τ).loc main_arg2)) n h := by
  rw [accum_apply, block3, V_v19, hostColumn_apply]
  rfl

/-- The kernel's second layer gives those logits at the experts' rows. -/
theorem logits_kernel (w : FVec Ideal S16x256 .f32) (hw : w = iblk m c 6 last) (b : FVec Ideal S16x1 .f32) (hb : b = iblk m c 7 last) (n : Fin 4096) (e : Fin 12) :
    (∑ k : Fin 256, w (ix2 (e.castAdd 4 : Fin 16) k)
        * hidden (F := Ideal) (accum m c 23 last.isLt) (iblk m c 3 last) (iblk m c 4 last) (iblk m c 5 last) (ix2 k n))
      + b (ix2 (e.castAdd 4 : Fin 16) 0) = logits m c n e := by
  rw [block6, V_v7] at hw
  rw [block7, V_v12] at hb
  subst hw hb
  have hL : (fun h => (accum m c 23 last.isLt (ix2 h n) : EReal) + (iblk m c 3 last : FVec Ideal S256x1 .f32) (ix2 h 0))
      = Cert.ReferenceIdeal.Router.refLayer (m ((c : Thread nD τ).loc main_arg0)) (m ((c : Thread nD τ).loc main_arg1)) (m ((c : Thread nD τ).loc main_arg2)) n :=
    funext fun h => layer_kernel m c n h
  unfold logits Cert.ReferenceIdeal.Router.refLogits Cert.Router.logit
  simp only [hidden_apply]
  rw [hL, block4, V_v20, block5, V_v21, hostBiases2_apply]
  simp only [hostColumn_apply, hostWeights2_apply]

/-- The threshold the kernel reads. -/
theorem bound_kernel : ((iblk m c 0 last : FVec Ideal S1 .f32) (ix1 0) : EReal) = bound m c := by
  rw [block0, V_v18]
  exact hostThreshold_apply _ 0

/-- The kernel's result, at an expert's row and at the thirteenth. -/
theorem result_rows (n : Fin 4096) :
    (∀ e : Fin 12, ((result m c : FVec Ideal S16x4096 .f32) (ix2 (e.castAdd 4 : Fin 16) n) : EReal)
        = Cert.Router.gate (Cert.Router.word (bound m c) (Cert.Router.prob (logits m c n))) (Cert.Router.prob (logits m c n)) e)
      ∧ ((result m c : FVec Ideal S16x4096 .f32) (ix2 12 n) : EReal) = Cert.Router.active (bound m c) (Cert.Router.prob (logits m c n)) := by
  have h := outcome_over ((m ((c : Thread nD τ).loc main_arg7) : FVec Ideal S_ .f32) ix0)
    (hidden (F := Ideal) (accum m c 23 last.isLt) (iblk m c 3 last) (iblk m c 4 last) (iblk m c 5 last)) (iblk m c 6 last) (iblk m c 7 last) n
    (logits m c n) (logits_kernel m c _ rfl _ rfl n)
  have hr : result m c = outcome (F := Ideal) (bound m c)
      (hidden (F := Ideal) (accum m c 23 last.isLt) (iblk m c 3 last) (iblk m c 4 last) (iblk m c 5 last)) (iblk m c 6 last) (iblk m c 7 last) := by
    unfold result
    rw [bound_kernel]
  rw [hr]
  exact h

/-- The gates, at a token and an expert: the result's entry there. -/
theorem gates_read (r : FVec Ideal S16x4096 .f32) (n : Fin 4096) (e : Fin 12) :
    (gates (F := Ideal) r (ix2 n e) : EReal) = r (ix2 (e.castAdd 4 : Fin 16) n) := by
  pointwise [gates]
  rfl

/-- The counts, at a token: the result's thirteenth row. -/
theorem counts_read (r : FVec Ideal S16x4096 .f32) (n : Fin 4096) :
    (counts (F := Ideal) r (ix1 n) : EReal) = r (ix2 12 n) := by
  pointwise [counts]

/-- The kernel's gates are the reference's. -/
theorem gates_eq :
    gates (F := Ideal) (result m c) = Cert.ReferenceIdeal.Read.val_main_v99 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨n, e, rfl⟩ : ∃ (n : Fin 4096) (e : Fin 12), i = ix2 n e := ⟨i 0, i 1, funext fun d => match d with | ⟨0, _⟩ => rfl | ⟨1, _⟩ => rfl⟩
  exact (gates_read _ n e).trans (((result_rows m c n).1 e).trans (Cert.ReferenceIdeal.Router.gate_apply _ _ _ _ _ _ _ _ n e).symm)

/-- The kernel's numbers of active experts are the reference's. -/
theorem counts_eq :
    counts (F := Ideal) (result m c) = Cert.ReferenceIdeal.Read.val_main_v66 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨n, rfl⟩ : ∃ n : Fin 4096, i = ix1 n := ⟨i 0, funext fun d => match d with | ⟨0, _⟩ => rfl⟩
  exact (counts_read _ n).trans ((result_rows m c n).2.trans (Cert.ReferenceIdeal.Router.active_apply _ _ _ _ _ _ _ _ n).symm)

variable (x0 : FVec Ideal S4096x96x16x16 .f32) (x1 : FVec Ideal S256x1536 .f32) (x2 x3 x4 : FVec Ideal S256 .f32) (x5 : FVec Ideal S12x256 .f32)
  (x6 : FVec Ideal S12 .f32) (x7 : FVec Ideal S_ .f32)
  (h0 : x0 = m ((c : Thread nD τ).loc main_arg0)) (h1 : x1 = m ((c : Thread nD τ).loc main_arg1)) (h2 : x2 = m ((c : Thread nD τ).loc main_arg2))
  (h3 : x3 = m ((c : Thread nD τ).loc main_arg3)) (h4 : x4 = m ((c : Thread nD τ).loc main_arg4)) (h5 : x5 = m ((c : Thread nD τ).loc main_arg5))
  (h6 : x6 = m ((c : Thread nD τ).loc main_arg6)) (h7 : x7 = m ((c : Thread nD τ).loc main_arg7))
include h0 h1 h2 h3 h4 h5 h6 h7

/-- Over arrays equal to the kernel's arguments, the reference's gates are the kernel's. -/
theorem gates_of : Cert.ReferenceIdeal.Read.val_main_v99 (F := Ideal) x0 x1 x2 x3 x4 x5 x6 x7 = gates (F := Ideal) (result m c) := by
  subst h0 h1 h2 h3 h4 h5 h6 h7
  exact (gates_eq m c).symm

/-- Over arrays equal to the kernel's arguments, the reference's numbers of active experts are the kernel's. -/
theorem counts_of : Cert.ReferenceIdeal.Read.val_main_v66 (F := Ideal) x0 x1 x2 x3 x4 x5 x6 x7 = counts (F := Ideal) (result m c) := by
  subst h0 h1 h2 h3 h4 h5 h6 h7
  exact (counts_eq m c).symm

end Cert.KernelIdeal.Router
end
-- ==== Proof.lean ====
/-
  The certificate's claims: the generated frames of the kernel at its bits and at the extended reals, the reference's frame,
  and the equality of every result, from the run of the launch (`Proof/Launch.lean`) and the equation (`Proof/Equation.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments, and ends with every semaphore counter at zero: it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- From memories that agree on the arguments, the kernel's gates, numbers of active experts and zero are the reference's. -/
theorem equal : Cert.algebraic_KernelIdeal_ReferenceIdeal (hKernelIdeal := Cert.KernelIdeal.Gen.facts) (hReferenceIdeal := Cert.ReferenceIdeal.Gen.facts) := by
  intro m ρ m' ρ' _ hargs
  refine ⟨fun c => Cert.KernelIdeal.Router.gates (Cert.KernelIdeal.Router.result m c), fun c => Cert.KernelIdeal.Router.counts (Cert.KernelIdeal.Router.result m c),
    fun _ => (constant (F := Ideal) Cert.KernelIdeal.S_ .f32 0x00000000#32 : FVec Ideal Cert.KernelIdeal.S_ .f32), ?_, ?_⟩
  · exact (θ_run Cert.KernelIdeal.defs _ _).mono (fun _ h c => ⟨(h.1 c).1, (h.1 c).2.1, (h.1 c).2.2, h.2 c⟩)
      (θ_run_and (Cert.KernelIdeal.Router.run m ρ) (Cert.KernelIdeal.Gen.unchanged m ρ))
  · refine (θ_run Cert.ReferenceIdeal.defs _ _).mono (fun _ h c => ?_) (Cert.ReferenceIdeal.Value.run (F := Ideal) m' ρ')
    obtain ⟨a0, a1, a2, a3, a4, a5, a6, a7⟩ := hargs c
    refine ⟨(h c).1.trans ?_, (h c).2.1.trans ?_, (h c).2.2.1, (h c).2.2.2⟩
    · exact (Cert.ReferenceIdeal.Read.val_main_v99_eq (StableHlo.launchContents m' c)).trans
        (Cert.KernelIdeal.Router.gates_of m c _ _ _ _ _ _ _ _ a0 a1 a2 a3 a4 a5 a6 a7)
    · exact (Cert.ReferenceIdeal.Read.val_main_v66_eq (StableHlo.launchContents m' c)).trans
        (Cert.KernelIdeal.Router.counts_of m c _ _ _ _ _ _ _ _ a0 a1 a2 a3 a4 a5 a6 a7)

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, equal⟩

end Cert.Proof

end
